-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v450) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S4x16x128x16x16 : Shape := ⟨5, ![4, 16, 128, 16, 16]⟩
abbrev S8x128x128 : Shape := ⟨3, ![8, 128, 128]⟩
abbrev S8x128 : Shape := ⟨2, ![8, 128]⟩
abbrev S8 : Shape := ⟨1, ![8]⟩
abbrev S_ : Shape := ⟨0, ![]⟩

class Facts : Prop where
  bcast_S_S8x128x128 : S_.BroadcastsInDim S8x128x128 (![] : Fin 0 → Fin S8x128x128.rank)
  reducesTo_S8x128x128_S_d0_1_2 : S8x128x128.ReducesTo [0, 1, 2] S_
  h_S_ : 0 < S_.numel
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg10 : FVec F S8 .f32) (main_arg11 : FVec F S8 .f32) (main_arg13 : FVec F S8 .f32) (main_v33 : IVec S_ 1) : IVec S_ 1 :=
  let main_v34 : FVec F S8 .f32 := Host.absf main_arg10
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8 .f32 := Host.absf main_arg11
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_cst_16 : FVec F S_ .f32 := constant S_ .f32 0x00000000#32
  let main_v44 : FVec F S8 .f32 := broadcastInDim S8 ![] bcast_S_S8 main_cst_16
  let main_v45 : IVec S8 1 := cmpf .une main_arg13 main_v44
  let main_c_17 : IVec S_ 1 := constantI S_ 1 1#1
  let main_v46 : IVec S_ 1 := (fun x v => Host.reduce IntOp.andi x v reducesTo_S8_S_d0 h_S_) main_v45 main_c_17
  let main_v47 : IVec S_ 1 := andi main_v43 main_v46
  main_v47

def fn_part1 {F : FTy → Type} [FloatOps F] (main_arg6 : FVec F S8x128 .f32) (main_arg7 : FVec F S8x128 .f32) (main_arg9 : FVec F S8x128 .f32) (main_arg10 : FVec F S8 .f32) (main_arg11 : FVec F S8 .f32) (main_arg13 : FVec F S8 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg6
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S8x128 .f32 := Host.absf main_arg7
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S8x128 .f32 := Host.absf main_arg9
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg10 main_arg11 main_arg13 main_v33

def fn {F : FTy → Type} [FloatOps F] (main_arg0 : FVec F S4x16x128x16x16 .f32) (main_arg1 : FVec F S8x128x128 .f32) (main_arg2 : FVec F S8x128 .f32) (main_arg3 : FVec F S8x128 .f32) (main_arg4 : FVec F S8x128 .f32) (main_arg5 : FVec F S8x128x128 .f32) (main_arg6 : FVec F S8x128 .f32) (main_arg7 : FVec F S8x128 .f32) (main_arg8 : FVec F S8x128 .f32) (main_arg9 : FVec F S8x128 .f32) (main_arg10 : FVec F S8 .f32) (main_arg11 : FVec F S8 .f32) (main_arg12 : FVec F S8 .f32) (main_arg13 : FVec F S8 .f32) : IVec S_ 1 :=
  let main_v0 : FVec F S8x128x128 .f32 := Host.absf main_arg1
  let main_cst : FVec F S_ .f32 := constant S_ .f32 0x7F800000#32
  let main_v1 : FVec F S8x128x128 .f32 := broadcastInDim S8x128x128 ![] bcast_S_S8x128x128 main_cst
  let main_v2 : IVec S8x128x128 1 := cmpf .olt main_v0 main_v1
  let main_c : IVec S_ 1 := constantI S_ 1 1#1
  let main_v3 : IVec S_ 1 := (fun x v => Host.reduce IntOp.andi x v reducesTo_S8x128x128_S_d0_1_2 h_S_) main_v2 main_c
  let main_v4 : FVec F S8x128 .f32 := Host.absf main_arg2
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x128x128 .f32 := Host.absf main_arg5
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg6 main_arg7 main_arg9 main_arg10 main_arg11 main_arg13 main_v13 main_v16
-- ==== Kernel.lean ====
abbrev S4x16x128x16x16 : Shape := ⟨5, ![4, 16, 128, 16, 16]⟩
abbrev S8x128x128 : Shape := ⟨3, ![8, 128, 128]⟩
abbrev S8x128 : Shape := ⟨2, ![8, 128]⟩
abbrev S8 : Shape := ⟨1, ![8]⟩
abbrev S4x16x16x16x128 : Shape := ⟨5, ![4, 16, 16, 16, 128]⟩
abbrev S4x4096x128 : Shape := ⟨3, ![4, 4096, 128]⟩
abbrev S128x8 : Shape := ⟨2, ![128, 8]⟩
abbrev S1x8 : Shape := ⟨2, ![1, 8]⟩
abbrev S1x4096x128 : Shape := ⟨3, ![1, 4096, 128]⟩
abbrev S4096x128 : Shape := ⟨2, ![4096, 128]⟩
abbrev S16x8 : Shape := ⟨2, ![16, 8]⟩
abbrev S4096x8 : Shape := ⟨2, ![4096, 8]⟩
abbrev S16x256x8 : Shape := ⟨3, ![16, 256, 8]⟩
abbrev S16 : Shape := ⟨1, ![16]⟩
abbrev S16x1 : Shape := ⟨2, ![16, 1]⟩
abbrev S16x128 : Shape := ⟨2, ![16, 128]⟩
abbrev S1x128x128 : Shape := ⟨3, ![1, 128, 128]⟩
abbrev S128x128 : Shape := ⟨2, ![128, 128]⟩
abbrev S1x128 : Shape := ⟨2, ![1, 128]⟩
abbrev S1x1 : Shape := ⟨2, ![1, 1]⟩
abbrev S128 : Shape := ⟨1, ![128]⟩
abbrev S16x1x1 : Shape := ⟨3, ![16, 1, 1]⟩
abbrev S1x1x128 : Shape := ⟨3, ![1, 1, 128]⟩
abbrev S16x1x128 : Shape := ⟨3, ![16, 1, 128]⟩
abbrev S16x256x128 : Shape := ⟨3, ![16, 256, 128]⟩

abbrev nBuf : Space → Nat
  | .hbm => 25
  | .vmem => 12
  | .smem => 0
  | _ => 0

abbrev bufTy : (tb : Table) → Fin (tcTables nBuf tb) → BufTy
  | .hbm, ⟨0, _⟩ => ⟨S4x16x128x16x16, .f32⟩
  | .hbm, ⟨1, _⟩ => ⟨S8x128x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S4x16x16x16x128, .f32⟩
  | .hbm, ⟨15, _⟩ => ⟨S4x4096x128, .f32⟩
  | .hbm, ⟨16, _⟩ => ⟨S8x128x128, .f32⟩
  | .hbm, ⟨17, _⟩ => ⟨S8x128x128, .f32⟩
  | .hbm, ⟨18, _⟩ => ⟨S128x8, .f32⟩
  | .hbm, ⟨19, _⟩ => ⟨S1x8, .f32⟩
  | .hbm, ⟨20, _⟩ => ⟨S1x8, .f32⟩
  | .hbm, ⟨21, _⟩ => ⟨S1x8, .f32⟩
  | .hbm, ⟨22, _⟩ => ⟨S4x4096x128, .f32⟩
  | .hbm, ⟨23, _⟩ => ⟨S4x16x16x16x128, .f32⟩
  | .hbm, ⟨24, _⟩ => ⟨S4x16x128x16x16, .f32⟩
  | .local _ .vmem, ⟨0, _⟩ => ⟨S4x4096x128, .f32⟩
  | .local _ .vmem, ⟨1, _⟩ => ⟨S8x128x128, .f32⟩
  | .local _ .vmem, ⟨2, _⟩ => ⟨S8x128, .f32⟩
  | .local _ .vmem, ⟨3, _⟩ => ⟨S8x128, .f32⟩
  | .local _ .vmem, ⟨4, _⟩ => ⟨S8x128x128, .f32⟩
  | .local _ .vmem, ⟨5, _⟩ => ⟨S8x128, .f32⟩
  | .local _ .vmem, ⟨6, _⟩ => ⟨S8x128, .f32⟩
  | .local _ .vmem, ⟨7, _⟩ => ⟨S128x8, .f32⟩
  | .local _ .vmem, ⟨8, _⟩ => ⟨S1x8, .f32⟩
  | .local _ .vmem, ⟨9, _⟩ => ⟨S1x8, .f32⟩
  | .local _ .vmem, ⟨10, _⟩ => ⟨S1x8, .f32⟩
  | .local _ .vmem, ⟨11, _⟩ => ⟨S4x4096x128, .f32⟩
  | _, _ => ⟨S4x16x128x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S4x16x128x16x16 : Shape := ⟨5, ![4, 16, 128, 16, 16]⟩
abbrev S8x128x128 : Shape := ⟨3, ![8, 128, 128]⟩
abbrev S8x128 : Shape := ⟨2, ![8, 128]⟩
abbrev S8 : Shape := ⟨1, ![8]⟩
abbrev S1x16x128x16x16 : Shape := ⟨5, ![1, 16, 128, 16, 16]⟩
abbrev S16x128x16x16 : Shape := ⟨4, ![16, 128, 16, 16]⟩
abbrev S_ : Shape := ⟨0, ![]⟩
abbrev S8x4x16x16x16 : Shape := ⟨5, ![8, 4, 16, 16, 16]⟩
abbrev S4x16x8x16x16 : Shape := ⟨5, ![4, 16, 8, 16, 16]⟩
abbrev S1x1x8x1x1 : Shape := ⟨5, ![1, 1, 8, 1, 1]⟩
abbrev S4x16x8 : Shape := ⟨3, ![4, 16, 8]⟩
abbrev S16x8 : Shape := ⟨2, ![16, 8]⟩
abbrev S16 : Shape := ⟨1, ![16]⟩
abbrev S16x1 : Shape := ⟨2, ![16, 1]⟩
abbrev S16x2 : Shape := ⟨2, ![16, 2]⟩
abbrev S16x2x1 : Shape := ⟨3, ![16, 2, 1]⟩
abbrev S16x2x2 : Shape := ⟨3, ![16, 2, 2]⟩
abbrev S8x1x1x1x1 : Shape := ⟨5, ![8, 1, 1, 1, 1]⟩
abbrev S8x16x128x16x16 : Shape := ⟨5, ![8, 16, 128, 16, 16]⟩
abbrev S1x8x16x128x16x16 : Shape := ⟨6, ![1, 8, 16, 128, 16, 16]⟩
abbrev S4x8x16x128x16x16 : Shape := ⟨6, ![4, 8, 16, 128, 16, 16]⟩
abbrev S8x128x4x16x16x16 : Shape := ⟨6, ![8, 128, 4, 16, 16, 16]⟩
abbrev S8x4x16x128x16x16 : Shape := ⟨6, ![8, 4, 16, 128, 16, 16]⟩
abbrev S8x1x1x128x1x1 : Shape := ⟨6, ![8, 1, 1, 128, 1, 1]⟩
abbrev S1x1x128x1x1 : Shape := ⟨5, ![1, 1, 128, 1, 1]⟩
abbrev S1x4x16x128x16x16 : Shape := ⟨6, ![1, 4, 16, 128, 16, 16]⟩
abbrev S8x1x16x128x16x16 : Shape := ⟨6, ![8, 1, 16, 128, 16, 16]⟩
abbrev S8x16 : Shape := ⟨2, ![8, 16]⟩
abbrev S8x1x16x1x1x1 : Shape := ⟨6, ![8, 1, 16, 1, 1, 1]⟩

abbrev nBuf : Space → Nat
  | .hbm => 640
  | .vmem => 0
  | .smem => 0
  | _ => 0

abbrev hbmTy0_0 (i : Nat) : BufTy := match i % 128 with
  | 0 => ⟨S4x16x128x16x16, .f32⟩
  | 1 => ⟨S8x128x128, .f32⟩
  | 2 => ⟨S8x128, .f32⟩
  | 3 => ⟨S8x128, .f32⟩
  | 4 => ⟨S8x128, .f32⟩
  | 5 => ⟨S8x128x128, .f32⟩
  | 6 => ⟨S8x128, .f32⟩
  | 7 => ⟨S8x128, .f32⟩
  | 8 => ⟨S8x128, .f32⟩
  | 9 => ⟨S8x128, .f32⟩
  | 10 => ⟨S8, .f32⟩
  | 11 => ⟨S8, .f32⟩
  | 12 => ⟨S8, .f32⟩
  | 13 => ⟨S8, .f32⟩
  | 14 => ⟨S1x16x128x16x16, .f32⟩
  | 15 => ⟨S16x128x16x16, .f32⟩
  | 16 => ⟨S_, .f32⟩
  | 17 => ⟨S16x128x16x16, .f32⟩
  | 18 => ⟨S1x16x128x16x16, .f32⟩
  | 19 => ⟨S16x128x16x16, .f32⟩
  | 20 => ⟨S16x128x16x16, .f32⟩
  | 21 => ⟨S_, .f32⟩
  | 22 => ⟨S16x128x16x16, .f32⟩
  | 23 => ⟨S16x128x16x16, .f32⟩
  | 24 => ⟨S16x128x16x16, .f32⟩
  | 25 => ⟨S_, .f32⟩
  | 26 => ⟨S16x128x16x16, .f32⟩
  | 27 => ⟨S16x128x16x16, .f32⟩
  | 28 => ⟨S_, .f32⟩
  | 29 => ⟨S16x128x16x16, .f32⟩
  | 30 => ⟨S16x128x16x16, .f32⟩
  | 31 => ⟨S16x128x16x16, .f32⟩
  | 32 => ⟨S16x128x16x16, .f32⟩
  | 33 => ⟨S_, .f32⟩
  | 34 => ⟨S16x128x16x16, .f32⟩
  | 35 => ⟨S16x128x16x16, .f32⟩
  | 36 => ⟨S_, .f32⟩
  | 37 => ⟨S16x128x16x16, .f32⟩
  | 38 => ⟨S16x128x16x16, .f32⟩
  | 39 => ⟨S_, .f32⟩
  | 40 => ⟨S16x128x16x16, .f32⟩
  | 41 => ⟨S16x128x16x16, .i1⟩
  | 42 => ⟨S16x128x16x16, .f32⟩
  | 43 => ⟨S16x128x16x16, .f32⟩
  | 44 => ⟨S16x128x16x16, .f32⟩
  | 45 => ⟨S_, .f32⟩
  | 46 => ⟨S16x128x16x16, .f32⟩
  | 47 => ⟨S16x128x16x16, .f32⟩
  | 48 => ⟨S16x128x16x16, .f32⟩
  | 49 => ⟨S1x16x128x16x16, .f32⟩
  | 50 => ⟨S16x128x16x16, .f32⟩
  | 51 => ⟨S16x128x16x16, .f32⟩
  | 52 => ⟨S_, .f32⟩
  | 53 => ⟨S16x128x16x16, .f32⟩
  | 54 => ⟨S16x128x16x16, .f32⟩
  | 55 => ⟨S16x128x16x16, .f32⟩
  | 56 => ⟨S_, .f32⟩
  | 57 => ⟨S16x128x16x16, .f32⟩
  | 58 => ⟨S16x128x16x16, .f32⟩
  | 59 => ⟨S_, .f32⟩
  | 60 => ⟨S16x128x16x16, .f32⟩
  | 61 => ⟨S16x128x16x16, .f32⟩
  | 62 => ⟨S16x128x16x16, .f32⟩
  | 63 => ⟨S16x128x16x16, .f32⟩
  | 64 => ⟨S_, .f32⟩
  | 65 => ⟨S16x128x16x16, .f32⟩
  | 66 => ⟨S16x128x16x16, .f32⟩
  | 67 => ⟨S_, .f32⟩
  | 68 => ⟨S16x128x16x16, .f32⟩
  | 69 => ⟨S16x128x16x16, .f32⟩
  | 70 => ⟨S_, .f32⟩
  | 71 => ⟨S16x128x16x16, .f32⟩
  | 72 => ⟨S16x128x16x16, .i1⟩
  | 73 => ⟨S16x128x16x16, .f32⟩
  | 74 => ⟨S16x128x16x16, .f32⟩
  | 75 => ⟨S16x128x16x16, .f32⟩
  | 76 => ⟨S_, .f32⟩
  | 77 => ⟨S16x128x16x16, .f32⟩
  | 78 => ⟨S16x128x16x16, .f32⟩
  | 79 => ⟨S16x128x16x16, .f32⟩
  | 80 => ⟨S1x16x128x16x16, .f32⟩
  | 81 => ⟨S16x128x16x16, .f32⟩
  | 82 => ⟨S16x128x16x16, .f32⟩
  | 83 => ⟨S_, .f32⟩
  | 84 => ⟨S16x128x16x16, .f32⟩
  | 85 => ⟨S16x128x16x16, .f32⟩
  | 86 => ⟨S16x128x16x16, .f32⟩
  | 87 => ⟨S_, .f32⟩
  | 88 => ⟨S16x128x16x16, .f32⟩
  | 89 => ⟨S16x128x16x16, .f32⟩
  | 90 => ⟨S_, .f32⟩
  | 91 => ⟨S16x128x16x16, .f32⟩
  | 92 => ⟨S16x128x16x16, .f32⟩
  | 93 => ⟨S16x128x16x16, .f32⟩
  | 94 => ⟨S16x128x16x16, .f32⟩
  | 95 => ⟨S_, .f32⟩
  | 96 => ⟨S16x128x16x16, .f32⟩
  | 97 => ⟨S16x128x16x16, .f32⟩
  | 98 => ⟨S_, .f32⟩
  | 99 => ⟨S16x128x16x16, .f32⟩
  | 100 => ⟨S16x128x16x16, .f32⟩
  | 101 => ⟨S_, .f32⟩
  | 102 => ⟨S16x128x16x16, .f32⟩
  | 103 => ⟨S16x128x16x16, .i1⟩
  | 104 => ⟨S16x128x16x16, .f32⟩
  | 105 => ⟨S16x128x16x16, .f32⟩
  | 106 => ⟨S16x128x16x16, .f32⟩
  | 107 => ⟨S_, .f32⟩
  | 108 => ⟨S16x128x16x16, .f32⟩
  | 109 => ⟨S16x128x16x16, .f32⟩
  | 110 => ⟨S16x128x16x16, .f32⟩
  | 111 => ⟨S1x16x128x16x16, .f32⟩
  | 112 => ⟨S16x128x16x16, .f32⟩
  | 113 => ⟨S16x128x16x16, .f32⟩
  | 114 => ⟨S_, .f32⟩
  | 115 => ⟨S16x128x16x16, .f32⟩
  | 116 => ⟨S16x128x16x16, .f32⟩
  | 117 => ⟨S16x128x16x16, .f32⟩
  | 118 => ⟨S_, .f32⟩
  | 119 => ⟨S16x128x16x16, .f32⟩
  | 120 => ⟨S16x128x16x16, .f32⟩
  | 121 => ⟨S_, .f32⟩
  | 122 => ⟨S16x128x16x16, .f32⟩
  | 123 => ⟨S16x128x16x16, .f32⟩
  | 124 => ⟨S16x128x16x16, .f32⟩
  | 125 => ⟨S16x128x16x16, .f32⟩
  | 126 => ⟨S_, .f32⟩
  | 127 => ⟨S16x128x16x16, .f32⟩
  | _ => ⟨S4x16x128x16x16, .f32⟩

abbrev hbmTy0_1 (i : Nat) : BufTy := match i % 128 with
  | 0 => ⟨S16x128x16x16, .f32⟩
  | 1 => ⟨S_, .f32⟩
  | 2 => ⟨S16x128x16x16, .f32⟩
  | 3 => ⟨S16x128x16x16, .f32⟩
  | 4 => ⟨S_, .f32⟩
  | 5 => ⟨S16x128x16x16, .f32⟩
  | 6 => ⟨S16x128x16x16, .i1⟩
  | 7 => ⟨S16x128x16x16, .f32⟩
  | 8 => ⟨S16x128x16x16, .f32⟩
  | 9 => ⟨S16x128x16x16, .f32⟩
  | 10 => ⟨S_, .f32⟩
  | 11 => ⟨S16x128x16x16, .f32⟩
  | 12 => ⟨S16x128x16x16, .f32⟩
  | 13 => ⟨S16x128x16x16, .f32⟩
  | 14 => ⟨S1x16x128x16x16, .f32⟩
  | 15 => ⟨S1x16x128x16x16, .f32⟩
  | 16 => ⟨S1x16x128x16x16, .f32⟩
  | 17 => ⟨S1x16x128x16x16, .f32⟩
  | 18 => ⟨S4x16x128x16x16, .f32⟩
  | 19 => ⟨S8x4x16x16x16, .f32⟩
  | 20 => ⟨S4x16x8x16x16, .f32⟩
  | 21 => ⟨S1x1x8x1x1, .f32⟩
  | 22 => ⟨S4x16x8x16x16, .f32⟩
  | 23 => ⟨S4x16x8x16x16, .f32⟩
  | 24 => ⟨S_, .f32⟩
  | 25 => ⟨S8, .f32⟩
  | 26 => ⟨S1x1x8x1x1, .f32⟩
  | 27 => ⟨S_, .f32⟩
  | 28 => ⟨S1x1x8x1x1, .f32⟩
  | 29 => ⟨S1x1x8x1x1, .f32⟩
  | 30 => ⟨S_, .i32⟩
  | 31 => ⟨S_, .f32⟩
  | 32 => ⟨S8, .f32⟩
  | 33 => ⟨S1x1x8x1x1, .f32⟩
  | 34 => ⟨S_, .f32⟩
  | 35 => ⟨S1x1x8x1x1, .f32⟩
  | 36 => ⟨S1x1x8x1x1, .f32⟩
  | 37 => ⟨S4x16x8x16x16, .f32⟩
  | 38 => ⟨S4x16x8x16x16, .f32⟩
  | 39 => ⟨S4x16x8x16x16, .f32⟩
  | 40 => ⟨S_, .f32⟩
  | 41 => ⟨S_, .f32⟩
  | 42 => ⟨S_, .f32⟩
  | 43 => ⟨S_, .f32⟩
  | 44 => ⟨S8, .f32⟩
  | 45 => ⟨S1x1x8x1x1, .f32⟩
  | 46 => ⟨S1x1x8x1x1, .f32⟩
  | 47 => ⟨S1x1x8x1x1, .f32⟩
  | 48 => ⟨S_, .f32⟩
  | 49 => ⟨S_, .i1⟩
  | 50 => ⟨S_, .f32⟩
  | 51 => ⟨S_, .f32⟩
  | 52 => ⟨S1x1x8x1x1, .f32⟩
  | 53 => ⟨S1x1x8x1x1, .f32⟩
  | 54 => ⟨S1x1x8x1x1, .f32⟩
  | 55 => ⟨S1x1x8x1x1, .f32⟩
  | 56 => ⟨S4x16x8x16x16, .f32⟩
  | 57 => ⟨S4x16x8x16x16, .f32⟩
  | 58 => ⟨S4x16x8x16x16, .f32⟩
  | 59 => ⟨S4x16x8x16x16, .f32⟩
  | 60 => ⟨S_, .f32⟩
  | 61 => ⟨S1x1x8x1x1, .f32⟩
  | 62 => ⟨S1x1x8x1x1, .f32⟩
  | 63 => ⟨S1x1x8x1x1, .f32⟩
  | 64 => ⟨S4x16x8x16x16, .f32⟩
  | 65 => ⟨S4x16x8x16x16, .f32⟩
  | 66 => ⟨S4x16x8x16x16, .f32⟩
  | 67 => ⟨S4x16x8x16x16, .f32⟩
  | 68 => ⟨S_, .f32⟩
  | 69 => ⟨S4x16x8, .f32⟩
  | 70 => ⟨S_, .f32⟩
  | 71 => ⟨S4x16x8, .f32⟩
  | 72 => ⟨S4x16x8, .f32⟩
  | 73 => ⟨S_, .f32⟩
  | 74 => ⟨S16x8, .f32⟩
  | 75 => ⟨S_, .f32⟩
  | 76 => ⟨S16x8, .f32⟩
  | 77 => ⟨S16x8, .f32⟩
  | 78 => ⟨S_, .f32⟩
  | 79 => ⟨S16, .f32⟩
  | 80 => ⟨S_, .f32⟩
  | 81 => ⟨S16, .f32⟩
  | 82 => ⟨S16, .f32⟩
  | 83 => ⟨S16x1, .f32⟩
  | 84 => ⟨S16x8, .f32⟩
  | 85 => ⟨S16x8, .f32⟩
  | 86 => ⟨S16x8, .f32⟩
  | 87 => ⟨S_, .f32⟩
  | 88 => ⟨S16, .f32⟩
  | 89 => ⟨S16x1, .f32⟩
  | 90 => ⟨S16x8, .f32⟩
  | 91 => ⟨S16x8, .f32⟩
  | 92 => ⟨S16x2, .f32⟩
  | 93 => ⟨S16x2, .i32⟩
  | 94 => ⟨S_, .f32⟩
  | 95 => ⟨S16, .f32⟩
  | 96 => ⟨S16x1, .f32⟩
  | 97 => ⟨S16x2, .f32⟩
  | 98 => ⟨S16x2, .f32⟩
  | 99 => ⟨S_, .f32⟩
  | 100 => ⟨S16x8, .f32⟩
  | 101 => ⟨S16, .i32⟩
  | 102 => ⟨S16x1, .i32⟩
  | 103 => ⟨S_, .i32⟩
  | 104 => ⟨S16x1, .i32⟩
  | 105 => ⟨S16x1, .i1⟩
  | 106 => ⟨S_, .i32⟩
  | 107 => ⟨S16x1, .i32⟩
  | 108 => ⟨S16x1, .i32⟩
  | 109 => ⟨S16x1, .i32⟩
  | 110 => ⟨S_, .i32⟩
  | 111 => ⟨S16x2, .i32⟩
  | 112 => ⟨S16x2, .i1⟩
  | 113 => ⟨S_, .i32⟩
  | 114 => ⟨S16x2, .i32⟩
  | 115 => ⟨S16x2, .i32⟩
  | 116 => ⟨S16x2, .i32⟩
  | 117 => ⟨S16x2, .i32⟩
  | 118 => ⟨S16x2x1, .i32⟩
  | 119 => ⟨S16x2x1, .i32⟩
  | 120 => ⟨S16x2x2, .i32⟩
  | 121 => ⟨S16x8, .f32⟩
  | 122 => ⟨S1x16x128x16x16, .f32⟩
  | 123 => ⟨S16x128x16x16, .f32⟩
  | 124 => ⟨S_, .f32⟩
  | 125 => ⟨S16x128x16x16, .f32⟩
  | 126 => ⟨S1x16x128x16x16, .f32⟩
  | 127 => ⟨S16x128x16x16, .f32⟩
  | _ => ⟨S4x16x128x16x16, .f32⟩

abbrev hbmTy0_2 (i : Nat) : BufTy := match i % 128 with
  | 0 => ⟨S16x128x16x16, .f32⟩
  | 1 => ⟨S1x16x128x16x16, .f32⟩
  | 2 => ⟨S8x1x1x1x1, .f32⟩
  | 3 => ⟨S8x16x128x16x16, .f32⟩
  | 4 => ⟨S8x16x128x16x16, .f32⟩
  | 5 => ⟨S8x16x128x16x16, .f32⟩
  | 6 => ⟨S1x16x128x16x16, .f32⟩
  | 7 => ⟨S8x16x128x16x16, .f32⟩
  | 8 => ⟨S8x16x128x16x16, .f32⟩
  | 9 => ⟨S_, .f32⟩
  | 10 => ⟨S8x16x128x16x16, .f32⟩
  | 11 => ⟨S8x16x128x16x16, .f32⟩
  | 12 => ⟨S_, .f32⟩
  | 13 => ⟨S8x16x128x16x16, .f32⟩
  | 14 => ⟨S8x16x128x16x16, .f32⟩
  | 15 => ⟨S8x16x128x16x16, .f32⟩
  | 16 => ⟨S8x16x128x16x16, .f32⟩
  | 17 => ⟨S_, .f32⟩
  | 18 => ⟨S8x16x128x16x16, .f32⟩
  | 19 => ⟨S8x16x128x16x16, .f32⟩
  | 20 => ⟨S_, .f32⟩
  | 21 => ⟨S8x16x128x16x16, .f32⟩
  | 22 => ⟨S8x16x128x16x16, .f32⟩
  | 23 => ⟨S_, .f32⟩
  | 24 => ⟨S8x16x128x16x16, .f32⟩
  | 25 => ⟨S8x16x128x16x16, .i1⟩
  | 26 => ⟨S8x16x128x16x16, .f32⟩
  | 27 => ⟨S8x16x128x16x16, .f32⟩
  | 28 => ⟨S8x16x128x16x16, .f32⟩
  | 29 => ⟨S_, .f32⟩
  | 30 => ⟨S8x16x128x16x16, .f32⟩
  | 31 => ⟨S8x16x128x16x16, .f32⟩
  | 32 => ⟨S8x16x128x16x16, .f32⟩
  | 33 => ⟨S1x16x128x16x16, .f32⟩
  | 34 => ⟨S16x128x16x16, .f32⟩
  | 35 => ⟨S1x16x128x16x16, .f32⟩
  | 36 => ⟨S8x16x128x16x16, .f32⟩
  | 37 => ⟨S8x16x128x16x16, .f32⟩
  | 38 => ⟨S8x1x1x1x1, .f32⟩
  | 39 => ⟨S8x16x128x16x16, .f32⟩
  | 40 => ⟨S8x16x128x16x16, .f32⟩
  | 41 => ⟨S8x16x128x16x16, .f32⟩
  | 42 => ⟨S_, .f32⟩
  | 43 => ⟨S8x16x128x16x16, .f32⟩
  | 44 => ⟨S8x16x128x16x16, .f32⟩
  | 45 => ⟨S_, .f32⟩
  | 46 => ⟨S8x16x128x16x16, .f32⟩
  | 47 => ⟨S8x16x128x16x16, .f32⟩
  | 48 => ⟨S8x16x128x16x16, .f32⟩
  | 49 => ⟨S8x16x128x16x16, .f32⟩
  | 50 => ⟨S_, .f32⟩
  | 51 => ⟨S8x16x128x16x16, .f32⟩
  | 52 => ⟨S8x16x128x16x16, .f32⟩
  | 53 => ⟨S_, .f32⟩
  | 54 => ⟨S8x16x128x16x16, .f32⟩
  | 55 => ⟨S8x16x128x16x16, .f32⟩
  | 56 => ⟨S_, .f32⟩
  | 57 => ⟨S8x16x128x16x16, .f32⟩
  | 58 => ⟨S8x16x128x16x16, .i1⟩
  | 59 => ⟨S8x16x128x16x16, .f32⟩
  | 60 => ⟨S8x16x128x16x16, .f32⟩
  | 61 => ⟨S8x16x128x16x16, .f32⟩
  | 62 => ⟨S_, .f32⟩
  | 63 => ⟨S8x16x128x16x16, .f32⟩
  | 64 => ⟨S8x16x128x16x16, .f32⟩
  | 65 => ⟨S8x16x128x16x16, .f32⟩
  | 66 => ⟨S1x16x128x16x16, .f32⟩
  | 67 => ⟨S16x128x16x16, .f32⟩
  | 68 => ⟨S1x16x128x16x16, .f32⟩
  | 69 => ⟨S8x16x128x16x16, .f32⟩
  | 70 => ⟨S8x16x128x16x16, .f32⟩
  | 71 => ⟨S8x1x1x1x1, .f32⟩
  | 72 => ⟨S8x16x128x16x16, .f32⟩
  | 73 => ⟨S8x16x128x16x16, .f32⟩
  | 74 => ⟨S8x16x128x16x16, .f32⟩
  | 75 => ⟨S_, .f32⟩
  | 76 => ⟨S8x16x128x16x16, .f32⟩
  | 77 => ⟨S8x16x128x16x16, .f32⟩
  | 78 => ⟨S_, .f32⟩
  | 79 => ⟨S8x16x128x16x16, .f32⟩
  | 80 => ⟨S8x16x128x16x16, .f32⟩
  | 81 => ⟨S8x16x128x16x16, .f32⟩
  | 82 => ⟨S8x16x128x16x16, .f32⟩
  | 83 => ⟨S_, .f32⟩
  | 84 => ⟨S8x16x128x16x16, .f32⟩
  | 85 => ⟨S8x16x128x16x16, .f32⟩
  | 86 => ⟨S_, .f32⟩
  | 87 => ⟨S8x16x128x16x16, .f32⟩
  | 88 => ⟨S8x16x128x16x16, .f32⟩
  | 89 => ⟨S_, .f32⟩
  | 90 => ⟨S8x16x128x16x16, .f32⟩
  | 91 => ⟨S8x16x128x16x16, .i1⟩
  | 92 => ⟨S8x16x128x16x16, .f32⟩
  | 93 => ⟨S8x16x128x16x16, .f32⟩
  | 94 => ⟨S8x16x128x16x16, .f32⟩
  | 95 => ⟨S_, .f32⟩
  | 96 => ⟨S8x16x128x16x16, .f32⟩
  | 97 => ⟨S8x16x128x16x16, .f32⟩
  | 98 => ⟨S8x16x128x16x16, .f32⟩
  | 99 => ⟨S1x16x128x16x16, .f32⟩
  | 100 => ⟨S16x128x16x16, .f32⟩
  | 101 => ⟨S1x16x128x16x16, .f32⟩
  | 102 => ⟨S8x16x128x16x16, .f32⟩
  | 103 => ⟨S8x16x128x16x16, .f32⟩
  | 104 => ⟨S8x1x1x1x1, .f32⟩
  | 105 => ⟨S8x16x128x16x16, .f32⟩
  | 106 => ⟨S8x16x128x16x16, .f32⟩
  | 107 => ⟨S8x16x128x16x16, .f32⟩
  | 108 => ⟨S_, .f32⟩
  | 109 => ⟨S8x16x128x16x16, .f32⟩
  | 110 => ⟨S8x16x128x16x16, .f32⟩
  | 111 => ⟨S_, .f32⟩
  | 112 => ⟨S8x16x128x16x16, .f32⟩
  | 113 => ⟨S8x16x128x16x16, .f32⟩
  | 114 => ⟨S8x16x128x16x16, .f32⟩
  | 115 => ⟨S8x16x128x16x16, .f32⟩
  | 116 => ⟨S_, .f32⟩
  | 117 => ⟨S8x16x128x16x16, .f32⟩
  | 118 => ⟨S8x16x128x16x16, .f32⟩
  | 119 => ⟨S_, .f32⟩
  | 120 => ⟨S8x16x128x16x16, .f32⟩
  | 121 => ⟨S8x16x128x16x16, .f32⟩
  | 122 => ⟨S_, .f32⟩
  | 123 => ⟨S8x16x128x16x16, .f32⟩
  | 124 => ⟨S8x16x128x16x16, .i1⟩
  | 125 => ⟨S8x16x128x16x16, .f32⟩
  | 126 => ⟨S8x16x128x16x16, .f32⟩
  | 127 => ⟨S8x16x128x16x16, .f32⟩
  | _ => ⟨S4x16x128x16x16, .f32⟩

abbrev hbmTy0_3 (i : Nat) : BufTy := match i % 128 with
  | 0 => ⟨S_, .f32⟩
  | 1 => ⟨S8x16x128x16x16, .f32⟩
  | 2 => ⟨S8x16x128x16x16, .f32⟩
  | 3 => ⟨S8x16x128x16x16, .f32⟩
  | 4 => ⟨S1x8x16x128x16x16, .f32⟩
  | 5 => ⟨S1x8x16x128x16x16, .f32⟩
  | 6 => ⟨S1x8x16x128x16x16, .f32⟩
  | 7 => ⟨S1x8x16x128x16x16, .f32⟩
  | 8 => ⟨S4x8x16x128x16x16, .f32⟩
  | 9 => ⟨S8x128x4x16x16x16, .f32⟩
  | 10 => ⟨S8x4x16x128x16x16, .f32⟩
  | 11 => ⟨S8x1x1x128x1x1, .f32⟩
  | 12 => ⟨S8x4x16x128x16x16, .f32⟩
  | 13 => ⟨S8x4x16x128x16x16, .f32⟩
  | 14 => ⟨S_, .f32⟩
  | 15 => ⟨S8x128, .f32⟩
  | 16 => ⟨S8x1x1x128x1x1, .f32⟩
  | 17 => ⟨S_, .f32⟩
  | 18 => ⟨S8x1x1x128x1x1, .f32⟩
  | 19 => ⟨S8x1x1x128x1x1, .f32⟩
  | 20 => ⟨S_, .i32⟩
  | 21 => ⟨S_, .f32⟩
  | 22 => ⟨S8x128, .f32⟩
  | 23 => ⟨S8x1x1x128x1x1, .f32⟩
  | 24 => ⟨S_, .f32⟩
  | 25 => ⟨S8x1x1x128x1x1, .f32⟩
  | 26 => ⟨S8x1x1x128x1x1, .f32⟩
  | 27 => ⟨S8x4x16x128x16x16, .f32⟩
  | 28 => ⟨S8x4x16x128x16x16, .f32⟩
  | 29 => ⟨S8x4x16x128x16x16, .f32⟩
  | 30 => ⟨S_, .f32⟩
  | 31 => ⟨S_, .f32⟩
  | 32 => ⟨S_, .f32⟩
  | 33 => ⟨S_, .f32⟩
  | 34 => ⟨S8x128, .f32⟩
  | 35 => ⟨S8x1x1x128x1x1, .f32⟩
  | 36 => ⟨S8x1x1x128x1x1, .f32⟩
  | 37 => ⟨S8x1x1x128x1x1, .f32⟩
  | 38 => ⟨S_, .f32⟩
  | 39 => ⟨S_, .i1⟩
  | 40 => ⟨S_, .f32⟩
  | 41 => ⟨S_, .f32⟩
  | 42 => ⟨S1x1x128x1x1, .f32⟩
  | 43 => ⟨S8x1x1x128x1x1, .f32⟩
  | 44 => ⟨S8x1x1x128x1x1, .f32⟩
  | 45 => ⟨S8x1x1x128x1x1, .f32⟩
  | 46 => ⟨S8x1x1x128x1x1, .f32⟩
  | 47 => ⟨S8x4x16x128x16x16, .f32⟩
  | 48 => ⟨S8x4x16x128x16x16, .f32⟩
  | 49 => ⟨S8x4x16x128x16x16, .f32⟩
  | 50 => ⟨S8x4x16x128x16x16, .f32⟩
  | 51 => ⟨S_, .f32⟩
  | 52 => ⟨S8x1x1x128x1x1, .f32⟩
  | 53 => ⟨S8x1x1x128x1x1, .f32⟩
  | 54 => ⟨S8x1x1x128x1x1, .f32⟩
  | 55 => ⟨S8x4x16x128x16x16, .f32⟩
  | 56 => ⟨S8x4x16x128x16x16, .f32⟩
  | 57 => ⟨S8x4x16x128x16x16, .f32⟩
  | 58 => ⟨S8x4x16x128x16x16, .f32⟩
  | 59 => ⟨S1x4x16x128x16x16, .f32⟩
  | 60 => ⟨S8x4x16x128x16x16, .f32⟩
  | 61 => ⟨S8x4x16x128x16x16, .f32⟩
  | 62 => ⟨S8x1x16x128x16x16, .f32⟩
  | 63 => ⟨S8x16x128x16x16, .f32⟩
  | 64 => ⟨S_, .f32⟩
  | 65 => ⟨S16x128x16x16, .f32⟩
  | 66 => ⟨S8x1x16x128x16x16, .f32⟩
  | 67 => ⟨S8x16x128x16x16, .f32⟩
  | 68 => ⟨S1x16x128x16x16, .f32⟩
  | 69 => ⟨S8x16x128x16x16, .f32⟩
  | 70 => ⟨S8x16x128x16x16, .f32⟩
  | 71 => ⟨S8x1x1x1x1, .f32⟩
  | 72 => ⟨S8x16x128x16x16, .f32⟩
  | 73 => ⟨S8x16x128x16x16, .f32⟩
  | 74 => ⟨S1x16x128x16x16, .f32⟩
  | 75 => ⟨S8x16x128x16x16, .f32⟩
  | 76 => ⟨S8x16x128x16x16, .f32⟩
  | 77 => ⟨S_, .f32⟩
  | 78 => ⟨S8x16x128x16x16, .f32⟩
  | 79 => ⟨S8x16x128x16x16, .f32⟩
  | 80 => ⟨S_, .f32⟩
  | 81 => ⟨S8x16x128x16x16, .f32⟩
  | 82 => ⟨S8x16x128x16x16, .f32⟩
  | 83 => ⟨S8x16x128x16x16, .f32⟩
  | 84 => ⟨S8x16x128x16x16, .f32⟩
  | 85 => ⟨S_, .f32⟩
  | 86 => ⟨S8x16x128x16x16, .f32⟩
  | 87 => ⟨S8x16x128x16x16, .f32⟩
  | 88 => ⟨S_, .f32⟩
  | 89 => ⟨S8x16x128x16x16, .f32⟩
  | 90 => ⟨S8x16x128x16x16, .f32⟩
  | 91 => ⟨S_, .f32⟩
  | 92 => ⟨S8x16x128x16x16, .f32⟩
  | 93 => ⟨S8x16x128x16x16, .i1⟩
  | 94 => ⟨S8x16x128x16x16, .f32⟩
  | 95 => ⟨S8x16x128x16x16, .f32⟩
  | 96 => ⟨S8x16x128x16x16, .f32⟩
  | 97 => ⟨S_, .f32⟩
  | 98 => ⟨S8x16x128x16x16, .f32⟩
  | 99 => ⟨S8x16x128x16x16, .f32⟩
  | 100 => ⟨S8x16x128x16x16, .f32⟩
  | 101 => ⟨S8x1x16x128x16x16, .f32⟩
  | 102 => ⟨S8x16x128x16x16, .f32⟩
  | 103 => ⟨S8x16x128x16x16, .f32⟩
  | 104 => ⟨S8x1x1x1x1, .f32⟩
  | 105 => ⟨S8x16x128x16x16, .f32⟩
  | 106 => ⟨S8x16x128x16x16, .f32⟩
  | 107 => ⟨S8x16x128x16x16, .f32⟩
  | 108 => ⟨S_, .f32⟩
  | 109 => ⟨S8x16x128x16x16, .f32⟩
  | 110 => ⟨S8x16x128x16x16, .f32⟩
  | 111 => ⟨S_, .f32⟩
  | 112 => ⟨S8x16x128x16x16, .f32⟩
  | 113 => ⟨S8x16x128x16x16, .f32⟩
  | 114 => ⟨S8x16x128x16x16, .f32⟩
  | 115 => ⟨S8x16x128x16x16, .f32⟩
  | 116 => ⟨S_, .f32⟩
  | 117 => ⟨S8x16x128x16x16, .f32⟩
  | 118 => ⟨S8x16x128x16x16, .f32⟩
  | 119 => ⟨S_, .f32⟩
  | 120 => ⟨S8x16x128x16x16, .f32⟩
  | 121 => ⟨S8x16x128x16x16, .f32⟩
  | 122 => ⟨S_, .f32⟩
  | 123 => ⟨S8x16x128x16x16, .f32⟩
  | 124 => ⟨S8x16x128x16x16, .i1⟩
  | 125 => ⟨S8x16x128x16x16, .f32⟩
  | 126 => ⟨S8x16x128x16x16, .f32⟩
  | 127 => ⟨S8x16x128x16x16, .f32⟩
  | _ => ⟨S4x16x128x16x16, .f32⟩

abbrev hbmTy0_4 (i : Nat) : BufTy := match i % 128 with
  | 0 => ⟨S_, .f32⟩
  | 1 => ⟨S8x16x128x16x16, .f32⟩
  | 2 => ⟨S8x16x128x16x16, .f32⟩
  | 3 => ⟨S8x16x128x16x16, .f32⟩
  | 4 => ⟨S8x1x16x128x16x16, .f32⟩
  | 5 => ⟨S8x16x128x16x16, .f32⟩
  | 6 => ⟨S8x16x128x16x16, .f32⟩
  | 7 => ⟨S8x1x1x1x1, .f32⟩
  | 8 => ⟨S8x16x128x16x16, .f32⟩
  | 9 => ⟨S8x16x128x16x16, .f32⟩
  | 10 => ⟨S8x16x128x16x16, .f32⟩
  | 11 => ⟨S_, .f32⟩
  | 12 => ⟨S8x16x128x16x16, .f32⟩
  | 13 => ⟨S8x16x128x16x16, .f32⟩
  | 14 => ⟨S_, .f32⟩
  | 15 => ⟨S8x16x128x16x16, .f32⟩
  | 16 => ⟨S8x16x128x16x16, .f32⟩
  | 17 => ⟨S8x16x128x16x16, .f32⟩
  | 18 => ⟨S8x16x128x16x16, .f32⟩
  | 19 => ⟨S_, .f32⟩
  | 20 => ⟨S8x16x128x16x16, .f32⟩
  | 21 => ⟨S8x16x128x16x16, .f32⟩
  | 22 => ⟨S_, .f32⟩
  | 23 => ⟨S8x16x128x16x16, .f32⟩
  | 24 => ⟨S8x16x128x16x16, .f32⟩
  | 25 => ⟨S_, .f32⟩
  | 26 => ⟨S8x16x128x16x16, .f32⟩
  | 27 => ⟨S8x16x128x16x16, .i1⟩
  | 28 => ⟨S8x16x128x16x16, .f32⟩
  | 29 => ⟨S8x16x128x16x16, .f32⟩
  | 30 => ⟨S8x16x128x16x16, .f32⟩
  | 31 => ⟨S_, .f32⟩
  | 32 => ⟨S8x16x128x16x16, .f32⟩
  | 33 => ⟨S8x16x128x16x16, .f32⟩
  | 34 => ⟨S8x16x128x16x16, .f32⟩
  | 35 => ⟨S8x1x16x128x16x16, .f32⟩
  | 36 => ⟨S8x16x128x16x16, .f32⟩
  | 37 => ⟨S8x16x128x16x16, .f32⟩
  | 38 => ⟨S8x1x1x1x1, .f32⟩
  | 39 => ⟨S8x16x128x16x16, .f32⟩
  | 40 => ⟨S8x16x128x16x16, .f32⟩
  | 41 => ⟨S8x16x128x16x16, .f32⟩
  | 42 => ⟨S_, .f32⟩
  | 43 => ⟨S8x16x128x16x16, .f32⟩
  | 44 => ⟨S8x16x128x16x16, .f32⟩
  | 45 => ⟨S_, .f32⟩
  | 46 => ⟨S8x16x128x16x16, .f32⟩
  | 47 => ⟨S8x16x128x16x16, .f32⟩
  | 48 => ⟨S8x16x128x16x16, .f32⟩
  | 49 => ⟨S8x16x128x16x16, .f32⟩
  | 50 => ⟨S_, .f32⟩
  | 51 => ⟨S8x16x128x16x16, .f32⟩
  | 52 => ⟨S8x16x128x16x16, .f32⟩
  | 53 => ⟨S_, .f32⟩
  | 54 => ⟨S8x16x128x16x16, .f32⟩
  | 55 => ⟨S8x16x128x16x16, .f32⟩
  | 56 => ⟨S_, .f32⟩
  | 57 => ⟨S8x16x128x16x16, .f32⟩
  | 58 => ⟨S8x16x128x16x16, .i1⟩
  | 59 => ⟨S8x16x128x16x16, .f32⟩
  | 60 => ⟨S8x16x128x16x16, .f32⟩
  | 61 => ⟨S8x16x128x16x16, .f32⟩
  | 62 => ⟨S_, .f32⟩
  | 63 => ⟨S8x16x128x16x16, .f32⟩
  | 64 => ⟨S8x16x128x16x16, .f32⟩
  | 65 => ⟨S8x16x128x16x16, .f32⟩
  | 66 => ⟨S1x8x16x128x16x16, .f32⟩
  | 67 => ⟨S1x8x16x128x16x16, .f32⟩
  | 68 => ⟨S1x8x16x128x16x16, .f32⟩
  | 69 => ⟨S1x8x16x128x16x16, .f32⟩
  | 70 => ⟨S4x8x16x128x16x16, .f32⟩
  | 71 => ⟨S8x128x4x16x16x16, .f32⟩
  | 72 => ⟨S8x4x16x128x16x16, .f32⟩
  | 73 => ⟨S8x1x1x128x1x1, .f32⟩
  | 74 => ⟨S8x4x16x128x16x16, .f32⟩
  | 75 => ⟨S8x4x16x128x16x16, .f32⟩
  | 76 => ⟨S_, .f32⟩
  | 77 => ⟨S8x128, .f32⟩
  | 78 => ⟨S8x1x1x128x1x1, .f32⟩
  | 79 => ⟨S_, .f32⟩
  | 80 => ⟨S8x1x1x128x1x1, .f32⟩
  | 81 => ⟨S8x1x1x128x1x1, .f32⟩
  | 82 => ⟨S_, .i32⟩
  | 83 => ⟨S_, .f32⟩
  | 84 => ⟨S8x128, .f32⟩
  | 85 => ⟨S8x1x1x128x1x1, .f32⟩
  | 86 => ⟨S_, .f32⟩
  | 87 => ⟨S8x1x1x128x1x1, .f32⟩
  | 88 => ⟨S8x1x1x128x1x1, .f32⟩
  | 89 => ⟨S8x4x16x128x16x16, .f32⟩
  | 90 => ⟨S8x4x16x128x16x16, .f32⟩
  | 91 => ⟨S8x4x16x128x16x16, .f32⟩
  | 92 => ⟨S_, .f32⟩
  | 93 => ⟨S_, .f32⟩
  | 94 => ⟨S_, .f32⟩
  | 95 => ⟨S_, .f32⟩
  | 96 => ⟨S8x128, .f32⟩
  | 97 => ⟨S8x1x1x128x1x1, .f32⟩
  | 98 => ⟨S8x1x1x128x1x1, .f32⟩
  | 99 => ⟨S8x1x1x128x1x1, .f32⟩
  | 100 => ⟨S_, .f32⟩
  | 101 => ⟨S_, .i1⟩
  | 102 => ⟨S_, .f32⟩
  | 103 => ⟨S_, .f32⟩
  | 104 => ⟨S1x1x128x1x1, .f32⟩
  | 105 => ⟨S8x1x1x128x1x1, .f32⟩
  | 106 => ⟨S8x1x1x128x1x1, .f32⟩
  | 107 => ⟨S8x1x1x128x1x1, .f32⟩
  | 108 => ⟨S8x1x1x128x1x1, .f32⟩
  | 109 => ⟨S8x4x16x128x16x16, .f32⟩
  | 110 => ⟨S8x4x16x128x16x16, .f32⟩
  | 111 => ⟨S8x4x16x128x16x16, .f32⟩
  | 112 => ⟨S8x4x16x128x16x16, .f32⟩
  | 113 => ⟨S_, .f32⟩
  | 114 => ⟨S8x1x1x128x1x1, .f32⟩
  | 115 => ⟨S8x1x1x128x1x1, .f32⟩
  | 116 => ⟨S8x1x1x128x1x1, .f32⟩
  | 117 => ⟨S8x4x16x128x16x16, .f32⟩
  | 118 => ⟨S8x4x16x128x16x16, .f32⟩
  | 119 => ⟨S8x4x16x128x16x16, .f32⟩
  | 120 => ⟨S8x4x16x128x16x16, .f32⟩
  | 121 => ⟨S8x4x16x128x16x16, .f32⟩
  | 122 => ⟨S8x16, .f32⟩
  | 123 => ⟨S8x1x16x1x1x1, .f32⟩
  | 124 => ⟨S8x4x16x128x16x16, .f32⟩
  | 125 => ⟨S8x4x16x128x16x16, .f32⟩
  | 126 => ⟨S_, .f32⟩
  | 127 => ⟨S4x16x128x16x16, .f32⟩
  | _ => ⟨S4x16x128x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x16x128x16x16, .f32⟩

abbrev bufTy : (tb : Table) → Fin (tcTables nBuf tb) → BufTy
  | .hbm, ⟨i, _⟩ => hbmTy i
  | _, _ => ⟨S4x16x128x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_v58 : Ref sig .tc := ⟨.hbm, 89, rfl⟩
abbrev main_cst_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_20 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_21 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_22 : Ref sig .tc := ⟨.hbm, 118, rfl⟩
abbrev main_v81 : Ref sig .tc := ⟨.hbm, 119, rfl⟩
abbrev main_v82 : Ref sig .tc := ⟨.hbm, 120, rfl⟩
abbrev main_cst_23 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_24 : Ref sig .tc := ⟨.hbm, 126, rfl⟩
abbrev main_v87 : Ref sig .tc := ⟨.hbm, 127, rfl⟩
abbrev main_v88 : Ref sig .tc := ⟨.hbm, 128, rfl⟩
abbrev main_cst_25 : Ref sig .tc := ⟨.hbm, 129, rfl⟩
abbrev main_v89 : Ref sig .tc := ⟨.hbm, 130, rfl⟩
abbrev main_v90 : Ref sig .tc := ⟨.hbm, 131, rfl⟩
abbrev main_cst_26 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_27 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_28 : Ref sig .tc := ⟨.hbm, 152, rfl⟩
abbrev main_v109 : Ref sig .tc := ⟨.hbm, 153, rfl⟩
abbrev main_v110 : Ref sig .tc := ⟨.hbm, 154, rfl⟩
abbrev main_cst_29 : Ref sig .tc := ⟨.hbm, 155, rfl⟩
abbrev main_v111 : Ref sig .tc := ⟨.hbm, 156, rfl⟩
abbrev main_v112 : Ref sig .tc := ⟨.hbm, 157, rfl⟩
abbrev main_c : Ref sig .tc := ⟨.hbm, 158, rfl⟩
abbrev main_call0_cst : Ref sig .tc := ⟨.hbm, 159, rfl⟩
abbrev main_call0_v0 : Ref sig .tc := ⟨.hbm, 160, rfl⟩
abbrev main_call0_v1 : Ref sig .tc := ⟨.hbm, 161, rfl⟩
abbrev main_call0_cst_0 : Ref sig .tc := ⟨.hbm, 162, rfl⟩
abbrev main_call0_v2 : Ref sig .tc := ⟨.hbm, 163, rfl⟩
abbrev main_call0_v3 : Ref sig .tc := ⟨.hbm, 164, rfl⟩
abbrev main_call0_v4 : Ref sig .tc := ⟨.hbm, 165, rfl⟩
abbrev main_call0_v5 : Ref sig .tc := ⟨.hbm, 166, rfl⟩
abbrev main_call0_v6 : Ref sig .tc := ⟨.hbm, 167, rfl⟩
abbrev main_call0_v7 : Ref sig .tc := ⟨.hbm, 168, rfl⟩
abbrev main_call0_cst_1 : Ref sig .tc := ⟨.hbm, 169, rfl⟩
abbrev main_call0_v8 : Ref sig .tc := ⟨.hbm, 170, rfl⟩
abbrev main_call0_cst_2 : Ref sig .tc := ⟨.hbm, 171, rfl⟩
abbrev main_call0_v9 : Ref sig .tc := ⟨.hbm, 172, rfl⟩
abbrev main_call0_v10 : Ref sig .tc := ⟨.hbm, 173, rfl⟩
abbrev main_call0_v11 : Ref sig .tc := ⟨.hbm, 174, rfl⟩
abbrev main_call0_v12 : Ref sig .tc := ⟨.hbm, 175, rfl⟩
abbrev main_call0_cst_3 : Ref sig .tc := ⟨.hbm, 176, rfl⟩
abbrev main_call0_v13 : Ref sig .tc := ⟨.hbm, 177, rfl⟩
abbrev main_call0_cst_4 : Ref sig .tc := ⟨.hbm, 178, rfl⟩
abbrev main_call0_call0_v0 : Ref sig .tc := ⟨.hbm, 179, rfl⟩
abbrev main_call0_call0_v1 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_cst_30 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_cst_31 : Ref sig .tc := ⟨.hbm, 196, rfl⟩
abbrev main_v127 : Ref sig .tc := ⟨.hbm, 197, rfl⟩
abbrev main_cst_32 : Ref sig .tc := ⟨.hbm, 198, rfl⟩
abbrev main_v128 : Ref sig .tc := ⟨.hbm, 199, rfl⟩
abbrev main_v129 : Ref sig .tc := ⟨.hbm, 200, rfl⟩
abbrev main_cst_33 : Ref sig .tc := ⟨.hbm, 201, rfl⟩
abbrev main_v130 : Ref sig .tc := ⟨.hbm, 202, rfl⟩
abbrev main_cst_34 : Ref sig .tc := ⟨.hbm, 203, rfl⟩
abbrev main_v131 : Ref sig .tc := ⟨.hbm, 204, rfl⟩
abbrev main_v132 : Ref sig .tc := ⟨.hbm, 205, rfl⟩
abbrev main_cst_35 : Ref sig .tc := ⟨.hbm, 206, rfl⟩
abbrev main_v133 : Ref sig .tc := ⟨.hbm, 207, rfl⟩
abbrev main_cst_36 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_cst_37 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_values : Ref sig .tc := ⟨.hbm, 220, rfl⟩
abbrev main_indices : Ref sig .tc := ⟨.hbm, 221, rfl⟩
abbrev main_cst_38 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_cst_39 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_c_40 : Ref sig .tc := ⟨.hbm, 231, rfl⟩
abbrev main_v151 : Ref sig .tc := ⟨.hbm, 232, rfl⟩
abbrev main_v152 : Ref sig .tc := ⟨.hbm, 233, rfl⟩
abbrev main_c_41 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_c_42 : Ref sig .tc := ⟨.hbm, 238, rfl⟩
abbrev main_v156 : Ref sig .tc := ⟨.hbm, 239, rfl⟩
abbrev main_v157 : Ref sig .tc := ⟨.hbm, 240, rfl⟩
abbrev main_c_43 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_cst_44 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_cst_45 : Ref sig .tc := ⟨.hbm, 265, rfl⟩
abbrev main_v180 : Ref sig .tc := ⟨.hbm, 266, rfl⟩
abbrev main_v181 : Ref sig .tc := ⟨.hbm, 267, rfl⟩
abbrev main_cst_46 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_cst_47 : Ref sig .tc := ⟨.hbm, 273, rfl⟩
abbrev main_v186 : Ref sig .tc := ⟨.hbm, 274, rfl⟩
abbrev main_v187 : Ref sig .tc := ⟨.hbm, 275, rfl⟩
abbrev main_cst_48 : Ref sig .tc := ⟨.hbm, 276, rfl⟩
abbrev main_v188 : Ref sig .tc := ⟨.hbm, 277, rfl⟩
abbrev main_v189 : Ref sig .tc := ⟨.hbm, 278, rfl⟩
abbrev main_cst_49 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_cst_50 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_cst_51 : Ref sig .tc := ⟨.hbm, 298, rfl⟩
abbrev main_v207 : Ref sig .tc := ⟨.hbm, 299, rfl⟩
abbrev main_v208 : Ref sig .tc := ⟨.hbm, 300, rfl⟩
abbrev main_cst_52 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_cst_53 : Ref sig .tc := ⟨.hbm, 306, rfl⟩
abbrev main_v213 : Ref sig .tc := ⟨.hbm, 307, rfl⟩
abbrev main_v214 : Ref sig .tc := ⟨.hbm, 308, rfl⟩
abbrev main_cst_54 : Ref sig .tc := ⟨.hbm, 309, rfl⟩
abbrev main_v215 : Ref sig .tc := ⟨.hbm, 310, rfl⟩
abbrev main_v216 : Ref sig .tc := ⟨.hbm, 311, rfl⟩
abbrev main_cst_55 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_cst_56 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_cst_57 : Ref sig .tc := ⟨.hbm, 331, rfl⟩
abbrev main_v234 : Ref sig .tc := ⟨.hbm, 332, rfl⟩
abbrev main_v235 : Ref sig .tc := ⟨.hbm, 333, rfl⟩
abbrev main_cst_58 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_cst_59 : Ref sig .tc := ⟨.hbm, 339, rfl⟩
abbrev main_v240 : Ref sig .tc := ⟨.hbm, 340, rfl⟩
abbrev main_v241 : Ref sig .tc := ⟨.hbm, 341, rfl⟩
abbrev main_cst_60 : Ref sig .tc := ⟨.hbm, 342, rfl⟩
abbrev main_v242 : Ref sig .tc := ⟨.hbm, 343, rfl⟩
abbrev main_v243 : Ref sig .tc := ⟨.hbm, 344, rfl⟩
abbrev main_cst_61 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_cst_62 : Ref sig .tc := ⟨.hbm, 351, rfl⟩
abbrev main_v249 : Ref sig .tc := ⟨.hbm, 352, rfl⟩
abbrev main_v250 : Ref sig .tc := ⟨.hbm, 353, rfl⟩
abbrev main_v251 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_v255 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_cst_63 : Ref sig .tc := ⟨.hbm, 364, rfl⟩
abbrev main_v261 : Ref sig .tc := ⟨.hbm, 365, rfl⟩
abbrev main_v262 : Ref sig .tc := ⟨.hbm, 366, rfl⟩
abbrev main_cst_64 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_cst_65 : Ref sig .tc := ⟨.hbm, 372, rfl⟩
abbrev main_v267 : Ref sig .tc := ⟨.hbm, 373, rfl⟩
abbrev main_v268 : Ref sig .tc := ⟨.hbm, 374, rfl⟩
abbrev main_cst_66 : Ref sig .tc := ⟨.hbm, 375, rfl⟩
abbrev main_v269 : Ref sig .tc := ⟨.hbm, 376, rfl⟩
abbrev main_v270 : Ref sig .tc := ⟨.hbm, 377, rfl⟩
abbrev main_cst_67 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev main_v274 : Ref sig .tc := ⟨.hbm, 382, rfl⟩
abbrev main_v275 : Ref sig .tc := ⟨.hbm, 383, rfl⟩
abbrev main_cst_68 : Ref sig .tc := ⟨.hbm, 384, rfl⟩
abbrev main_v276 : Ref sig .tc := ⟨.hbm, 385, rfl⟩
abbrev main_v277 : Ref sig .tc := ⟨.hbm, 386, rfl⟩
abbrev main_v278 : Ref sig .tc := ⟨.hbm, 387, rfl⟩
abbrev main_v279 : Ref sig .tc := ⟨.hbm, 388, rfl⟩
abbrev main_v280 : Ref sig .tc := ⟨.hbm, 389, rfl⟩
abbrev main_v281 : Ref sig .tc := ⟨.hbm, 390, rfl⟩
abbrev main_v282 : Ref sig .tc := ⟨.hbm, 391, rfl⟩
abbrev main_v283 : Ref sig .tc := ⟨.hbm, 392, rfl⟩
abbrev main_v284 : Ref sig .tc := ⟨.hbm, 393, rfl⟩
abbrev main_v285 : Ref sig .tc := ⟨.hbm, 394, rfl⟩
abbrev main_v286 : Ref sig .tc := ⟨.hbm, 395, rfl⟩
abbrev main_v287 : Ref sig .tc := ⟨.hbm, 396, rfl⟩
abbrev main_v288 : Ref sig .tc := ⟨.hbm, 397, rfl⟩
abbrev main_cst_69 : Ref sig .tc := ⟨.hbm, 398, rfl⟩
abbrev main_v289 : Ref sig .tc := ⟨.hbm, 399, rfl⟩
abbrev main_v290 : Ref sig .tc := ⟨.hbm, 400, rfl⟩
abbrev main_cst_70 : Ref sig .tc := ⟨.hbm, 401, rfl⟩
abbrev main_v291 : Ref sig .tc := ⟨.hbm, 402, rfl⟩
abbrev main_v292 : Ref sig .tc := ⟨.hbm, 403, rfl⟩
abbrev main_c_71 : Ref sig .tc := ⟨.hbm, 404, rfl⟩
abbrev main_call1_cst : Ref sig .tc := ⟨.hbm, 405, rfl⟩
abbrev main_call1_v0 : Ref sig .tc := ⟨.hbm, 406, rfl⟩
abbrev main_call1_v1 : Ref sig .tc := ⟨.hbm, 407, rfl⟩
abbrev main_call1_cst_0 : Ref sig .tc := ⟨.hbm, 408, rfl⟩
abbrev main_call1_v2 : Ref sig .tc := ⟨.hbm, 409, rfl⟩
abbrev main_call1_v3 : Ref sig .tc := ⟨.hbm, 410, rfl⟩
abbrev main_call1_v4 : Ref sig .tc := ⟨.hbm, 411, rfl⟩
abbrev main_call1_v5 : Ref sig .tc := ⟨.hbm, 412, rfl⟩
abbrev main_call1_v6 : Ref sig .tc := ⟨.hbm, 413, rfl⟩
abbrev main_call1_v7 : Ref sig .tc := ⟨.hbm, 414, rfl⟩
abbrev main_call1_cst_1 : Ref sig .tc := ⟨.hbm, 415, rfl⟩
abbrev main_call1_v8 : Ref sig .tc := ⟨.hbm, 416, rfl⟩
abbrev main_call1_cst_2 : Ref sig .tc := ⟨.hbm, 417, rfl⟩
abbrev main_call1_v9 : Ref sig .tc := ⟨.hbm, 418, rfl⟩
abbrev main_call1_v10 : Ref sig .tc := ⟨.hbm, 419, rfl⟩
abbrev main_call1_v11 : Ref sig .tc := ⟨.hbm, 420, rfl⟩
abbrev main_call1_v12 : Ref sig .tc := ⟨.hbm, 421, rfl⟩
abbrev main_call1_cst_3 : Ref sig .tc := ⟨.hbm, 422, rfl⟩
abbrev main_call1_v13 : Ref sig .tc := ⟨.hbm, 423, rfl⟩
abbrev main_call1_cst_4 : Ref sig .tc := ⟨.hbm, 424, rfl⟩
abbrev main_call1_call0_v0 : Ref sig .tc := ⟨.hbm, 425, rfl⟩
abbrev main_call1_call0_v1 : Ref sig .tc := ⟨.hbm, 426, rfl⟩
abbrev main_call1_call0_v2 : Ref sig .tc := ⟨.hbm, 427, rfl⟩
abbrev main_v293 : Ref sig .tc := ⟨.hbm, 428, rfl⟩
abbrev main_v294 : Ref sig .tc := ⟨.hbm, 429, rfl⟩
abbrev main_v295 : Ref sig .tc := ⟨.hbm, 430, rfl⟩
abbrev main_v296 : Ref sig .tc := ⟨.hbm, 431, rfl⟩
abbrev main_v297 : Ref sig .tc := ⟨.hbm, 432, rfl⟩
abbrev main_v298 : Ref sig .tc := ⟨.hbm, 433, rfl⟩
abbrev main_v299 : Ref sig .tc := ⟨.hbm, 434, rfl⟩
abbrev main_cst_72 : Ref sig .tc := ⟨.hbm, 435, rfl⟩
abbrev main_v300 : Ref sig .tc := ⟨.hbm, 436, rfl⟩
abbrev main_v301 : Ref sig .tc := ⟨.hbm, 437, rfl⟩
abbrev main_v302 : Ref sig .tc := ⟨.hbm, 438, rfl⟩
abbrev main_v303 : Ref sig .tc := ⟨.hbm, 439, rfl⟩
abbrev main_v304 : Ref sig .tc := ⟨.hbm, 440, rfl⟩
abbrev main_v305 : Ref sig .tc := ⟨.hbm, 441, rfl⟩
abbrev main_v306 : Ref sig .tc := ⟨.hbm, 442, rfl⟩
abbrev main_v307 : Ref sig .tc := ⟨.hbm, 443, rfl⟩
abbrev main_v308 : Ref sig .tc := ⟨.hbm, 444, rfl⟩
abbrev main_v309 : Ref sig .tc := ⟨.hbm, 445, rfl⟩
abbrev main_v310 : Ref sig .tc := ⟨.hbm, 446, rfl⟩
abbrev main_v311 : Ref sig .tc := ⟨.hbm, 447, rfl⟩
abbrev main_cst_73 : Ref sig .tc := ⟨.hbm, 448, rfl⟩
abbrev main_v312 : Ref sig .tc := ⟨.hbm, 449, rfl⟩
abbrev main_v313 : Ref sig .tc := ⟨.hbm, 450, rfl⟩
abbrev main_v314 : Ref sig .tc := ⟨.hbm, 451, rfl⟩
abbrev main_v315 : Ref sig .tc := ⟨.hbm, 452, rfl⟩
abbrev main_v316 : Ref sig .tc := ⟨.hbm, 453, rfl⟩
abbrev main_v317 : Ref sig .tc := ⟨.hbm, 454, rfl⟩
abbrev main_v318 : Ref sig .tc := ⟨.hbm, 455, rfl⟩
abbrev main_v319 : Ref sig .tc := ⟨.hbm, 456, rfl⟩
abbrev main_v320 : Ref sig .tc := ⟨.hbm, 457, rfl⟩
abbrev main_v321 : Ref sig .tc := ⟨.hbm, 458, rfl⟩
abbrev main_v322 : Ref sig .tc := ⟨.hbm, 459, rfl⟩
abbrev main_v323 : Ref sig .tc := ⟨.hbm, 460, rfl⟩
abbrev main_cst_74 : Ref sig .tc := ⟨.hbm, 461, rfl⟩
abbrev main_v324 : Ref sig .tc := ⟨.hbm, 462, rfl⟩
abbrev main_v325 : Ref sig .tc := ⟨.hbm, 463, rfl⟩
abbrev main_cst_75 : Ref sig .tc := ⟨.hbm, 464, rfl⟩
abbrev main_v326 : Ref sig .tc := ⟨.hbm, 465, rfl⟩
abbrev main_v327 : Ref sig .tc := ⟨.hbm, 466, rfl⟩
abbrev main_v328 : Ref sig .tc := ⟨.hbm, 467, rfl⟩
abbrev main_v329 : Ref sig .tc := ⟨.hbm, 468, rfl⟩
abbrev main_cst_76 : Ref sig .tc := ⟨.hbm, 469, rfl⟩
abbrev main_v330 : Ref sig .tc := ⟨.hbm, 470, rfl⟩
abbrev main_v331 : Ref sig .tc := ⟨.hbm, 471, rfl⟩
abbrev main_cst_77 : Ref sig .tc := ⟨.hbm, 472, rfl⟩
abbrev main_v332 : Ref sig .tc := ⟨.hbm, 473, rfl⟩
abbrev main_v333 : Ref sig .tc := ⟨.hbm, 474, rfl⟩
abbrev main_cst_78 : Ref sig .tc := ⟨.hbm, 475, rfl⟩
abbrev main_v334 : Ref sig .tc := ⟨.hbm, 476, rfl⟩
abbrev main_v335 : Ref sig .tc := ⟨.hbm, 477, rfl⟩
abbrev main_v336 : Ref sig .tc := ⟨.hbm, 478, rfl⟩
abbrev main_v337 : Ref sig .tc := ⟨.hbm, 479, rfl⟩
abbrev main_v338 : Ref sig .tc := ⟨.hbm, 480, rfl⟩
abbrev main_cst_79 : Ref sig .tc := ⟨.hbm, 481, rfl⟩
abbrev main_v339 : Ref sig .tc := ⟨.hbm, 482, rfl⟩
abbrev main_v340 : Ref sig .tc := ⟨.hbm, 483, rfl⟩
abbrev main_v341 : Ref sig .tc := ⟨.hbm, 484, rfl⟩
abbrev main_v342 : Ref sig .tc := ⟨.hbm, 485, rfl⟩
abbrev main_v343 : Ref sig .tc := ⟨.hbm, 486, rfl⟩
abbrev main_v344 : Ref sig .tc := ⟨.hbm, 487, rfl⟩
abbrev main_v345 : Ref sig .tc := ⟨.hbm, 488, rfl⟩
abbrev main_v346 : Ref sig .tc := ⟨.hbm, 489, rfl⟩
abbrev main_v347 : Ref sig .tc := ⟨.hbm, 490, rfl⟩
abbrev main_v348 : Ref sig .tc := ⟨.hbm, 491, rfl⟩
abbrev main_cst_80 : Ref sig .tc := ⟨.hbm, 492, rfl⟩
abbrev main_v349 : Ref sig .tc := ⟨.hbm, 493, rfl⟩
abbrev main_v350 : Ref sig .tc := ⟨.hbm, 494, rfl⟩
abbrev main_cst_81 : Ref sig .tc := ⟨.hbm, 495, rfl⟩
abbrev main_v351 : Ref sig .tc := ⟨.hbm, 496, rfl⟩
abbrev main_v352 : Ref sig .tc := ⟨.hbm, 497, rfl⟩
abbrev main_v353 : Ref sig .tc := ⟨.hbm, 498, rfl⟩
abbrev main_v354 : Ref sig .tc := ⟨.hbm, 499, rfl⟩
abbrev main_cst_82 : Ref sig .tc := ⟨.hbm, 500, rfl⟩
abbrev main_v355 : Ref sig .tc := ⟨.hbm, 501, rfl⟩
abbrev main_v356 : Ref sig .tc := ⟨.hbm, 502, rfl⟩
abbrev main_cst_83 : Ref sig .tc := ⟨.hbm, 503, rfl⟩
abbrev main_v357 : Ref sig .tc := ⟨.hbm, 504, rfl⟩
abbrev main_v358 : Ref sig .tc := ⟨.hbm, 505, rfl⟩
abbrev main_cst_84 : Ref sig .tc := ⟨.hbm, 506, rfl⟩
abbrev main_v359 : Ref sig .tc := ⟨.hbm, 507, rfl⟩
abbrev main_v360 : Ref sig .tc := ⟨.hbm, 508, rfl⟩
abbrev main_v361 : Ref sig .tc := ⟨.hbm, 509, rfl⟩
abbrev main_v362 : Ref sig .tc := ⟨.hbm, 510, rfl⟩
abbrev main_v363 : Ref sig .tc := ⟨.hbm, 511, rfl⟩
abbrev main_cst_85 : Ref sig .tc := ⟨.hbm, 512, rfl⟩
abbrev main_v364 : Ref sig .tc := ⟨.hbm, 513, rfl⟩
abbrev main_v365 : Ref sig .tc := ⟨.hbm, 514, rfl⟩
abbrev main_v366 : Ref sig .tc := ⟨.hbm, 515, rfl⟩
abbrev main_v367 : Ref sig .tc := ⟨.hbm, 516, rfl⟩
abbrev main_v368 : Ref sig .tc := ⟨.hbm, 517, rfl⟩
abbrev main_v369 : Ref sig .tc := ⟨.hbm, 518, rfl⟩
abbrev main_v370 : Ref sig .tc := ⟨.hbm, 519, rfl⟩
abbrev main_v371 : Ref sig .tc := ⟨.hbm, 520, rfl⟩
abbrev main_v372 : Ref sig .tc := ⟨.hbm, 521, rfl⟩
abbrev main_v373 : Ref sig .tc := ⟨.hbm, 522, rfl⟩
abbrev main_cst_86 : Ref sig .tc := ⟨.hbm, 523, rfl⟩
abbrev main_v374 : Ref sig .tc := ⟨.hbm, 524, rfl⟩
abbrev main_v375 : Ref sig .tc := ⟨.hbm, 525, rfl⟩
abbrev main_cst_87 : Ref sig .tc := ⟨.hbm, 526, rfl⟩
abbrev main_v376 : Ref sig .tc := ⟨.hbm, 527, rfl⟩
abbrev main_v377 : Ref sig .tc := ⟨.hbm, 528, rfl⟩
abbrev main_v378 : Ref sig .tc := ⟨.hbm, 529, rfl⟩
abbrev main_v379 : Ref sig .tc := ⟨.hbm, 530, rfl⟩
abbrev main_cst_88 : Ref sig .tc := ⟨.hbm, 531, rfl⟩
abbrev main_v380 : Ref sig .tc := ⟨.hbm, 532, rfl⟩
abbrev main_v381 : Ref sig .tc := ⟨.hbm, 533, rfl⟩
abbrev main_cst_89 : Ref sig .tc := ⟨.hbm, 534, rfl⟩
abbrev main_v382 : Ref sig .tc := ⟨.hbm, 535, rfl⟩
abbrev main_v383 : Ref sig .tc := ⟨.hbm, 536, rfl⟩
abbrev main_cst_90 : Ref sig .tc := ⟨.hbm, 537, rfl⟩
abbrev main_v384 : Ref sig .tc := ⟨.hbm, 538, rfl⟩
abbrev main_v385 : Ref sig .tc := ⟨.hbm, 539, rfl⟩
abbrev main_v386 : Ref sig .tc := ⟨.hbm, 540, rfl⟩
abbrev main_v387 : Ref sig .tc := ⟨.hbm, 541, rfl⟩
abbrev main_v388 : Ref sig .tc := ⟨.hbm, 542, rfl⟩
abbrev main_cst_91 : Ref sig .tc := ⟨.hbm, 543, rfl⟩
abbrev main_v389 : Ref sig .tc := ⟨.hbm, 544, rfl⟩
abbrev main_v390 : Ref sig .tc := ⟨.hbm, 545, rfl⟩
abbrev main_v391 : Ref sig .tc := ⟨.hbm, 546, rfl⟩
abbrev main_v392 : Ref sig .tc := ⟨.hbm, 547, rfl⟩
abbrev main_v393 : Ref sig .tc := ⟨.hbm, 548, rfl⟩
abbrev main_v394 : Ref sig .tc := ⟨.hbm, 549, rfl⟩
abbrev main_v395 : Ref sig .tc := ⟨.hbm, 550, rfl⟩
abbrev main_v396 : Ref sig .tc := ⟨.hbm, 551, rfl⟩
abbrev main_v397 : Ref sig .tc := ⟨.hbm, 552, rfl⟩
abbrev main_v398 : Ref sig .tc := ⟨.hbm, 553, rfl⟩
abbrev main_cst_92 : Ref sig .tc := ⟨.hbm, 554, rfl⟩
abbrev main_v399 : Ref sig .tc := ⟨.hbm, 555, rfl⟩
abbrev main_v400 : Ref sig .tc := ⟨.hbm, 556, rfl⟩
abbrev main_cst_93 : Ref sig .tc := ⟨.hbm, 557, rfl⟩
abbrev main_v401 : Ref sig .tc := ⟨.hbm, 558, rfl⟩
abbrev main_v402 : Ref sig .tc := ⟨.hbm, 559, rfl⟩
abbrev main_v403 : Ref sig .tc := ⟨.hbm, 560, rfl⟩
abbrev main_v404 : Ref sig .tc := ⟨.hbm, 561, rfl⟩
abbrev main_cst_94 : Ref sig .tc := ⟨.hbm, 562, rfl⟩
abbrev main_v405 : Ref sig .tc := ⟨.hbm, 563, rfl⟩
abbrev main_v406 : Ref sig .tc := ⟨.hbm, 564, rfl⟩
abbrev main_cst_95 : Ref sig .tc := ⟨.hbm, 565, rfl⟩
abbrev main_v407 : Ref sig .tc := ⟨.hbm, 566, rfl⟩
abbrev main_v408 : Ref sig .tc := ⟨.hbm, 567, rfl⟩
abbrev main_cst_96 : Ref sig .tc := ⟨.hbm, 568, rfl⟩
abbrev main_v409 : Ref sig .tc := ⟨.hbm, 569, rfl⟩
abbrev main_v410 : Ref sig .tc := ⟨.hbm, 570, rfl⟩
abbrev main_v411 : Ref sig .tc := ⟨.hbm, 571, rfl⟩
abbrev main_v412 : Ref sig .tc := ⟨.hbm, 572, rfl⟩
abbrev main_v413 : Ref sig .tc := ⟨.hbm, 573, rfl⟩
abbrev main_cst_97 : Ref sig .tc := ⟨.hbm, 574, rfl⟩
abbrev main_v414 : Ref sig .tc := ⟨.hbm, 575, rfl⟩
abbrev main_v415 : Ref sig .tc := ⟨.hbm, 576, rfl⟩
abbrev main_v416 : Ref sig .tc := ⟨.hbm, 577, rfl⟩
abbrev main_v417 : Ref sig .tc := ⟨.hbm, 578, rfl⟩
abbrev main_v418 : Ref sig .tc := ⟨.hbm, 579, rfl⟩
abbrev main_v419 : Ref sig .tc := ⟨.hbm, 580, rfl⟩
abbrev main_v420 : Ref sig .tc := ⟨.hbm, 581, rfl⟩
abbrev main_v421 : Ref sig .tc := ⟨.hbm, 582, rfl⟩
abbrev main_v422 : Ref sig .tc := ⟨.hbm, 583, rfl⟩
abbrev main_v423 : Ref sig .tc := ⟨.hbm, 584, rfl⟩
abbrev main_v424 : Ref sig .tc := ⟨.hbm, 585, rfl⟩
abbrev main_v425 : Ref sig .tc := ⟨.hbm, 586, rfl⟩
abbrev main_v426 : Ref sig .tc := ⟨.hbm, 587, rfl⟩
abbrev main_cst_98 : Ref sig .tc := ⟨.hbm, 588, rfl⟩
abbrev main_v427 : Ref sig .tc := ⟨.hbm, 589, rfl⟩
abbrev main_v428 : Ref sig .tc := ⟨.hbm, 590, rfl⟩
abbrev main_cst_99 : Ref sig .tc := ⟨.hbm, 591, rfl⟩
abbrev main_v429 : Ref sig .tc := ⟨.hbm, 592, rfl⟩
abbrev main_v430 : Ref sig .tc := ⟨.hbm, 593, rfl⟩
abbrev main_c_100 : Ref sig .tc := ⟨.hbm, 594, rfl⟩
abbrev main_call2_cst : Ref sig .tc := ⟨.hbm, 595, rfl⟩
abbrev main_call2_v0 : Ref sig .tc := ⟨.hbm, 596, rfl⟩
abbrev main_call2_v1 : Ref sig .tc := ⟨.hbm, 597, rfl⟩
abbrev main_call2_cst_0 : Ref sig .tc := ⟨.hbm, 598, rfl⟩
abbrev main_call2_v2 : Ref sig .tc := ⟨.hbm, 599, rfl⟩
abbrev main_call2_v3 : Ref sig .tc := ⟨.hbm, 600, rfl⟩
abbrev main_call2_v4 : Ref sig .tc := ⟨.hbm, 601, rfl⟩
abbrev main_call2_v5 : Ref sig .tc := ⟨.hbm, 602, rfl⟩
abbrev main_call2_v6 : Ref sig .tc := ⟨.hbm, 603, rfl⟩
abbrev main_call2_v7 : Ref sig .tc := ⟨.hbm, 604, rfl⟩
abbrev main_call2_cst_1 : Ref sig .tc := ⟨.hbm, 605, rfl⟩
abbrev main_call2_v8 : Ref sig .tc := ⟨.hbm, 606, rfl⟩
abbrev main_call2_cst_2 : Ref sig .tc := ⟨.hbm, 607, rfl⟩
abbrev main_call2_v9 : Ref sig .tc := ⟨.hbm, 608, rfl⟩
abbrev main_call2_v10 : Ref sig .tc := ⟨.hbm, 609, rfl⟩
abbrev main_call2_v11 : Ref sig .tc := ⟨.hbm, 610, rfl⟩
abbrev main_call2_v12 : Ref sig .tc := ⟨.hbm, 611, rfl⟩
abbrev main_call2_cst_3 : Ref sig .tc := ⟨.hbm, 612, rfl⟩
abbrev main_call2_v13 : Ref sig .tc := ⟨.hbm, 613, rfl⟩
abbrev main_call2_cst_4 : Ref sig .tc := ⟨.hbm, 614, rfl⟩
abbrev main_call2_call0_v0 : Ref sig .tc := ⟨.hbm, 615, rfl⟩
abbrev main_call2_call0_v1 : Ref sig .tc := ⟨.hbm, 616, rfl⟩
abbrev main_call2_call0_v2 : Ref sig .tc := ⟨.hbm, 617, rfl⟩
abbrev main_v431 : Ref sig .tc := ⟨.hbm, 618, rfl⟩
abbrev main_v432 : Ref sig .tc := ⟨.hbm, 619, rfl⟩
abbrev main_v433 : Ref sig .tc := ⟨.hbm, 620, rfl⟩
abbrev main_v434 : Ref sig .tc := ⟨.hbm, 621, rfl⟩
abbrev main_v435 : Ref sig .tc := ⟨.hbm, 622, rfl⟩
abbrev main_v436 : Ref sig .tc := ⟨.hbm, 623, rfl⟩
abbrev main_v437 : Ref sig .tc := ⟨.hbm, 624, rfl⟩
abbrev main_cst_101 : Ref sig .tc := ⟨.hbm, 625, rfl⟩
abbrev main_v438 : Ref sig .tc := ⟨.hbm, 626, rfl⟩
abbrev main_v439 : Ref sig .tc := ⟨.hbm, 627, rfl⟩
abbrev main_v440 : Ref sig .tc := ⟨.hbm, 628, rfl⟩
abbrev main_v441 : Ref sig .tc := ⟨.hbm, 629, rfl⟩
abbrev main_v442 : Ref sig .tc := ⟨.hbm, 630, rfl⟩
abbrev main_v443 : Ref sig .tc := ⟨.hbm, 631, rfl⟩
abbrev main_v444 : Ref sig .tc := ⟨.hbm, 632, rfl⟩
abbrev main_v445 : Ref sig .tc := ⟨.hbm, 633, rfl⟩
abbrev main_v446 : Ref sig .tc := ⟨.hbm, 634, rfl⟩
abbrev main_v447 : Ref sig .tc := ⟨.hbm, 635, rfl⟩
abbrev main_v448 : Ref sig .tc := ⟨.hbm, 636, rfl⟩
abbrev main_v449 : Ref sig .tc := ⟨.hbm, 637, rfl⟩
abbrev main_cst_102 : Ref sig .tc := ⟨.hbm, 638, rfl⟩
abbrev main_v450 : Ref sig .tc := ⟨.hbm, 639, rfl⟩

abbrev nD : Nat := 1
abbrev τ : Topo := Topo.v7x

variable {F : FTy → Type} [FloatOps F]
-- ==== Proof.Model.lean ====
/- The layer's quantities as functions of extended reals: a membrane, the convolutions of its spikes, the
   normalisation the kernel applies as a factor and an offset, and the normalisation as the reference spells it. Rows are
   the positions (batch entry, height, width) of the images, channels are numbered below 128. -/
module

public import Idealize.ShloMosaic.PureOps.Ideal.Laws

@[expose] public section

noncomputable section

namespace Spiking

open Idealize.ShloMosaic

/-- An array over the steps, the rows and the channels. -/
abbrev Field : Type := ℕ → Fin 4096 → Fin 128 → EReal

/-- The number of positions a channel is normalised over, as the programs write it. -/
abbrev count : EReal := Ideal.ofBits .f32 0x46800000#32

/-- The normalisation's small constant, as the programs write it. -/
abbrev small : EReal := Ideal.ofBits .f32 0x3727C5AC#32

/-- One where the membrane reaches the threshold, zero elsewhere. -/
def ind (u : EReal) : EReal := if 1 ≤ u then 1 else 0

/-- The membrane after the hard reset. -/
def rest (u : EReal) : EReal := if 1 ≤ u then 0 else u

/-- The membrane at step `t`, charged at rate `k` by the inputs `x`. -/
def mem (k : EReal) (x : ℕ → EReal) : ℕ → EReal
  | 0 => 0 + (x 0 - 0) * k
  | t + 1 => rest (mem k x t) + (x (t + 1) - rest (mem k x t)) * k

/-- The spikes of every row and channel. -/
def spike (k : EReal) (x : Field) : Field := fun t n c => ind (mem k (fun s => x s n c) t)

/-- The convolution of the spikes by the weights `w`. -/
def hid {m : ℕ} (k : EReal) (x : Field) (w : Fin 128 → Fin m → EReal) (t : ℕ) (n : Fin 4096) (c : Fin m) : EReal :=
  ∑ d, spike k x t n d * w d c

/-- The sum over the four steps, from zero. -/
def sum4 (f : ℕ → EReal) : EReal := 0 + f 0 + f 1 + f 2 + f 3

/-! ## The normalisation as a factor and an offset, per channel -/

/-- The mean over steps and rows. -/
def mean (h : ℕ → Fin 4096 → EReal) : EReal := Ideal.div (sum4 fun t => ∑ n, h t n) count

/-- The mean of the squares over steps and rows. -/
def meansq (h : ℕ → Fin 4096 → EReal) : EReal := Ideal.div (sum4 fun t => ∑ n, h t n * h t n) count

/-- One over the standard deviation. -/
def invdev (h : ℕ → Fin 4096 → EReal) : EReal := Ideal.rsqrt (meansq h - mean h * mean h + small)

/-- The scale over the standard deviation. -/
def factor (h : ℕ → Fin 4096 → EReal) (g : EReal) : EReal := g * invdev h

/-- The offset. -/
def offset (h : ℕ → Fin 4096 → EReal) (g bt : EReal) : EReal := bt - mean h * factor h g

/-- The residual stream after the first half of an expert. -/
def half (h x : Field) (g bt : Fin 128 → EReal) : Field := fun t n c =>
  x t n c + h t n c * factor (fun s i => h s i c) (g c) + offset (fun s i => h s i c) (g c) (bt c)

/-! ## The router -/

/-- The value no entry lies below, as the programs write it. -/
abbrev lowest : EReal := Ideal.ofBits .f32 0xFF800000#32

/-- The largest of the eight entries. -/
def largest (p : Fin 8 → EReal) : EReal := Finset.univ.fold max lowest p

/-- The softmax of the eight logits. -/
def softmax (l : Fin 8 → EReal) (e : Fin 8) : EReal :=
  Ideal.div (Ideal.exp (l e - largest l)) (∑ i, Ideal.exp (l i - largest l))

/-- The number of the first entry that is the largest. -/
def firstAt (p : Fin 8 → EReal) : BitVec 32 :=
  Finset.univ.fold IntOp.minsi 2147483647#32 fun i : Fin 8 => if p i = largest p then BitVec.ofNat 32 i.val else 8#32

/-- The entries with the one numbered `i` taken out. -/
def without (p : Fin 8 → EReal) (i : BitVec 32) (e : Fin 8) : EReal :=
  Scalar.select (IntOp.cmpi .eq (BitVec.ofNat 32 e.val) i) lowest (p e)

/-- The weights the kernel gives to the eight experts with probabilities `p`. -/
def weight (p : Fin 8 → EReal) (e : Fin 8) : EReal :=
  Ideal.div
    (Scalar.select (IntOp.ori (IntOp.cmpi .eq (BitVec.ofNat 32 e.val) (firstAt p))
      (IntOp.cmpi .eq (BitVec.ofNat 32 e.val) (firstAt (without p (firstAt p))))) (p e) 0)
    (largest p + largest (without p (firstAt p)))

/-- The logit of one expert in batch entry `b`, from the router's convolution for that expert. -/
def logit (h : ℕ → Fin 4096 → EReal) (g bt : EReal) (b : Fin 16) : EReal :=
  (Ideal.div (sum4 fun t => ∑ i : Fin 256, h t ⟨b.val * 256 + i.val, by omega⟩) (Ideal.ofBits .f32 0x44800000#32)
    - mean h) * invdev h * g + bt

/-! ## The experts' sum -/

/-- The batch entry a row belongs to. -/
def bat (n : Fin 4096) : Fin 16 := ⟨n.val / 256, by omega⟩

/-- One expert: the weight it has in each batch entry, its matrices, its normalisations and its rate. -/
structure Params where
  w : Fin 16 → EReal
  w1 : Fin 128 → Fin 128 → EReal
  w2 : Fin 128 → Fin 128 → EReal
  g1 : Fin 128 → EReal
  bt1 : Fin 128 → EReal
  g2 : Fin 128 → EReal
  bt2 : Fin 128 → EReal
  k : EReal

/-- The first convolution of an expert. -/
def hid1 (p : Params) (x : Field) : Field := hid p.k x p.w1

/-- The residual stream between an expert's halves. -/
def mid (p : Params) (x : Field) : Field := half (hid1 p x) x p.g1 p.bt1

/-- The second convolution of an expert. -/
def hid2 (p : Params) (x : Field) : Field := hid p.k (mid p x) p.w2

/-- The products of the convolutions and the factors, weighted, summed over the first `m` experts. -/
def acc (ps : ℕ → Params) (x : Field) (t : ℕ) (n : Fin 4096) (c : Fin 128) : ℕ → EReal
  | 0 => 0
  | m + 1 => acc ps x t n c m
      + hid1 (ps m) x t n c * ((ps m).w (bat n) * factor (fun s i => hid1 (ps m) x s i c) ((ps m).g1 c))
      + hid2 (ps m) x t n c * ((ps m).w (bat n) * factor (fun s i => hid2 (ps m) x s i c) ((ps m).g2 c))

/-- The offsets, weighted, summed over the first `m` experts. -/
def shift (ps : ℕ → Params) (x : Field) (b : Fin 16) (c : Fin 128) : ℕ → EReal
  | 0 => 0
  | m + 1 => shift ps x b c m + (ps m).w b *
      (offset (fun s i => hid1 (ps m) x s i c) ((ps m).g1 c) ((ps m).bt1 c)
        + offset (fun s i => hid2 (ps m) x s i c) ((ps m).g2 c) ((ps m).bt2 c))

/-- What the kernel computes from the weights' sums `ws`. -/
def out (ws : Fin 16 → EReal) (ps : ℕ → Params) (x : Field) : Field := fun t n c =>
  x t n c * ws (bat n) + acc ps x t n c 8 + shift ps x (bat n) c 8

end Spiking

end
-- ==== Proof.Scalar.lean ====
/- The spike and the reset as the reference spells them, over the extended reals, and the laws that let its quotients and
   its normalisation be rearranged into the kernel's factor and offset. -/
module

public import proofs.«01_k».proof.Proof.Model

@[expose] public section

noncomputable section

namespace Spiking

open Idealize.ShloMosaic

/-! ## The programs' constants -/

/-- The literal two. -/
theorem two_lit : Ideal.ofBits .f32 0x40000000#32 = ((2 : ℝ) : EReal) := by
  simp [Ideal.ofBits, Ideal.ieee, -EReal.coe_mul]; norm_num

/-- The literal four. -/
theorem four_lit : Ideal.ofBits .f32 0x40800000#32 = ((4 : ℝ) : EReal) := by
  simp [Ideal.ofBits, Ideal.ieee, -EReal.coe_mul]; norm_num

/-- The literal one half. -/
theorem half_lit : Ideal.ofBits .f32 0x3F000000#32 = (((2 : ℝ)⁻¹ : ℝ) : EReal) := by
  simp [Ideal.ofBits, Ideal.ieee, -EReal.coe_mul]; norm_num

/-- The literal 256, the positions of an image. -/
theorem image_lit : Ideal.ofBits .f32 0x43800000#32 = ((256 : ℝ) : EReal) := by
  simp [Ideal.ofBits, Ideal.ieee, -EReal.coe_mul]; norm_num

/-- The literal 1024, the positions of an image over the steps. -/
theorem images_lit : Ideal.ofBits .f32 0x44800000#32 = ((1024 : ℝ) : EReal) := by
  simp [Ideal.ofBits, Ideal.ieee, -EReal.coe_mul]; norm_num

/-- The literal 16384, the positions a channel is normalised over. -/
theorem count_lit : count = ((16384 : ℝ) : EReal) := by
  simp [count, Ideal.ofBits, Ideal.ieee, -EReal.coe_mul]; norm_num

/-- The normalisation's small constant is a positive real. -/
theorem small_lit : ∃ r : ℝ, small = (r : EReal) ∧ 0 < r := by
  refine ⟨10995116 * (2 : ℝ) ^ (-40 : ℤ), ?_, by positivity⟩
  simp [small, Ideal.ofBits, Ideal.ieee, -EReal.coe_mul]

/-- The value no entry lies below is the least one. -/
theorem lowest_lit : lowest = ⊥ := by
  simp [lowest, Ideal.ofBits, Ideal.ieee]

/-! ## Real entries -/

/-- The entry is a real number. -/
def Real' (a : EReal) : Prop := ∃ r : ℝ, a = (r : EReal)

/-- A sum of real numbers is their sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A product of real numbers is a real number. -/
theorem Real'.mul {a b : EReal} : Real' a → Real' b → Real' (a * b) := by
  rintro ⟨r, rfl⟩ ⟨s, rfl⟩
  exact ⟨r * s, (EReal.coe_mul r s).symm⟩

/-- A finite sum of real numbers is a real number. -/
theorem Real'.sum {ι : Type*} {s : Finset ι} {f : ι → EReal} (h : ∀ i, Real' (f i)) : Real' (∑ i ∈ s, f i) := by
  choose r hr using h
  exact ⟨∑ i ∈ s, r i, by simp only [hr, coe_sum]⟩

/-- Zero or one is real. -/
theorem real_ind (u : EReal) : Real' (ind u) := by
  unfold ind; split
  · exact ⟨1, rfl⟩
  · exact ⟨0, rfl⟩

/-- A convolution by real weights is real. -/
theorem real_hid {m : ℕ} (k : EReal) (x : Field) {w : Fin 128 → Fin m → EReal} (hw : ∀ d c, Real' (w d c)) (t : ℕ)
    (n : Fin 4096) (c : Fin m) : Real' (hid k x w t n c) :=
  Real'.sum fun d => (real_ind _).mul (hw d c)

/-! ## Quotients -/

/-- Over a nonzero rate a quotient is the product by the rate's reciprocal. -/
theorem div_eq_mul {a r : EReal} (h : r ≠ 0) : Ideal.div a r = a * Ideal.div 1 r := by
  simp [Ideal.div, h]

/-- A quotient by a nonzero real is the product by its inverse. -/
theorem div_coe (a : EReal) {r : ℝ} (h : r ≠ 0) : Ideal.div a (r : EReal) = a * ((r⁻¹ : ℝ) : EReal) := by
  rw [Ideal.div, if_neg (by exact_mod_cast h), EReal.coe_inv]

/-- A quotient of reals. -/
theorem div_coe_coe (a : ℝ) {r : ℝ} (h : r ≠ 0) : Ideal.div (a : EReal) (r : EReal) = ((a / r : ℝ) : EReal) := by
  rw [div_coe _ h, ← EReal.coe_mul, div_eq_mul_inv]

/-- Halving is the product by one half. -/
theorem div_two (a : EReal) : Ideal.div a (Ideal.ofBits .f32 0x40000000#32) = a * Ideal.ofBits .f32 0x3F000000#32 := by
  rw [two_lit, half_lit, div_coe a two_ne_zero]

/-! ## The spike and the reset -/

/-- The surrogate of the spike: the logistic function of four times the distance from the threshold. -/
def soft (u : EReal) : EReal := Ideal.div 1 (1 + Ideal.exp (-(Ideal.ofBits .f32 0x40800000#32 * (u - 1))))

/-- The spike as the reference spells it. -/
def fire (u : EReal) : EReal := soft u + (ind u - soft u)

/-- The surrogate is a real number at every membrane. -/
theorem real_soft (u : EReal) : Real' (soft u) := by
  unfold soft
  rw [four_lit]
  induction u with
  | bot =>
    refine ⟨0, ?_⟩
    rw [show ((⊥ : EReal) - 1) = ⊥ from rfl, EReal.coe_mul_bot_of_pos (by norm_num), EReal.neg_bot,
      show Ideal.exp ⊤ = ⊤ from rfl, show (1 : EReal) + ⊤ = ⊤ from rfl]
    simp [Ideal.div]
  | top =>
    refine ⟨1, ?_⟩
    rw [show ((⊤ : EReal) - 1) = ⊤ from rfl, EReal.coe_mul_top_of_pos (by norm_num), EReal.neg_top,
      show Ideal.exp ⊥ = 0 from rfl, add_zero]
    simp [Ideal.div]
  | coe r =>
    refine ⟨1 / (1 + Real.exp (-(4 * (r - 1)))), ?_⟩
    rw [show ((r : EReal) - 1) = ((r - 1 : ℝ) : EReal) from rfl, ← EReal.coe_mul, ← EReal.coe_neg,
      show Ideal.exp ((-(4 * (r - 1)) : ℝ) : EReal) = ((Real.exp (-(4 * (r - 1))) : ℝ) : EReal) from rfl,
      show (1 : EReal) = ((1 : ℝ) : EReal) from rfl, ← EReal.coe_add, div_coe_coe _ (by positivity)]

/-- The surrogate cancels: the spike is one at the threshold and above, else zero. -/
theorem fire_eq (u : EReal) : fire u = ind u := by
  obtain ⟨r, hr⟩ := real_soft u
  obtain ⟨i, hi⟩ := real_ind u
  rw [fire, hr, hi, ← EReal.coe_sub, ← EReal.coe_add, add_sub_cancel]

/-- The product with one minus the spike is the hard reset, at the infinities too. -/
theorem mul_fire (u : EReal) : u * (1 - fire u) = rest u := by
  rw [fire_eq, ind, rest]
  split
  · rw [show (1 : EReal) - 1 = 0 from by rw [show (1 : EReal) = ((1 : ℝ) : EReal) from rfl, ← EReal.coe_sub]; simp,
      mul_zero]
  · rw [sub_zero, mul_one]

/-- The membrane as the reference spells it, with the inputs divided by the rate `r`. -/
def charge (r : EReal) (x : ℕ → EReal) : ℕ → EReal
  | 0 => 0 + Ideal.div (x 0 - 0) r
  | t + 1 => charge r x t * (1 - fire (charge r x t))
      + Ideal.div (x (t + 1) - charge r x t * (1 - fire (charge r x t))) r

/-- It is the membrane charged at the rate `k`, if a quotient by `r` is a product by `k`. -/
theorem charge_eq {r k : EReal} (h : ∀ a, Ideal.div a r = a * k) (x : ℕ → EReal) (t : ℕ) : charge r x t = mem k x t := by
  induction t with
  | zero => rw [charge, mem, h]
  | succ t ih => rw [charge, mem, ih, mul_fire, h]

/-! ## The normalisation -/

/-- The sum over the four steps and the rows. -/
def total (f : ℕ → Fin 4096 → EReal) : EReal := ∑ t : Fin 4, ∑ n, f t.val n

/-- The mean as the reference spells it. -/
def rmean (f : ℕ → Fin 4096 → EReal) : EReal := Ideal.div (total f) count

/-- The variance as the reference spells it: the mean of the squared distances from the mean. -/
def rvar (f : ℕ → Fin 4096 → EReal) : EReal :=
  Ideal.div (total fun t n => (f t n - rmean f) * (f t n - rmean f)) count

/-- The normalised entry as the reference spells it. -/
def norm (f : ℕ → Fin 4096 → EReal) (g bt : EReal) (t : ℕ) (n : Fin 4096) : EReal :=
  Ideal.div (g * (f t n - rmean f)) (Ideal.sqrt (rvar f + small)) + bt

/-- Summing the steps from zero is summing over the steps. -/
theorem sum4_eq (f : ℕ → EReal) : sum4 f = ∑ t : Fin 4, f t.val := by
  rw [sum4, Fin.sum_univ_four, zero_add]; rfl

/-- The total of a field of reals. -/
theorem total_coe (r : ℕ → Fin 4096 → ℝ) :
    total (fun t n => ((r t n : ℝ) : EReal)) = ((∑ t : Fin 4, ∑ n, r t.val n : ℝ) : EReal) := by
  simp only [total, coe_sum]

/-- The mean of a field of reals. -/
def avg (r : ℕ → Fin 4096 → ℝ) : ℝ := (∑ t : Fin 4, ∑ n, r t.val n) / 16384

/-- The variance of a field of reals. -/
def var (r : ℕ → Fin 4096 → ℝ) : ℝ := avg fun t n => (r t n - avg r) * (r t n - avg r)

/-- The kernel's mean of real values is their average. -/
theorem mean_coe (r : ℕ → Fin 4096 → ℝ) : mean (fun t n => ((r t n : ℝ) : EReal)) = ((avg r : ℝ) : EReal) := by
  rw [mean, sum4_eq, count_lit]
  simp only [coe_sum]
  rw [div_coe_coe _ (by norm_num), avg]

/-- The reference's mean of real values is their average. -/
theorem rmean_coe (r : ℕ → Fin 4096 → ℝ) : rmean (fun t n => ((r t n : ℝ) : EReal)) = ((avg r : ℝ) : EReal) := by
  rw [rmean, total_coe, count_lit, div_coe_coe _ (by norm_num), avg]

/-- The kernel's mean of squares of real values is the average of their squares. -/
theorem meansq_coe (r : ℕ → Fin 4096 → ℝ) :
    meansq (fun t n => ((r t n : ℝ) : EReal)) = ((avg fun t n => r t n * r t n : ℝ) : EReal) := by
  have h : meansq (fun t n => ((r t n : ℝ) : EReal)) = mean fun t n => ((r t n * r t n : ℝ) : EReal) := by
    simp only [meansq, mean, EReal.coe_mul]
  rw [h, mean_coe]

/-- The reference's variance of real values is their variance. -/
theorem rvar_coe (r : ℕ → Fin 4096 → ℝ) : rvar (fun t n => ((r t n : ℝ) : EReal)) = ((var r : ℝ) : EReal) := by
  rw [rvar, rmean_coe]
  simp only [← EReal.coe_sub, ← EReal.coe_mul]
  exact rmean_coe fun t n => (r t n - avg r) * (r t n - avg r)

/-- The average of a sum is the sum of the averages. -/
theorem avg_add (r s : ℕ → Fin 4096 → ℝ) : avg (fun t n => r t n + s t n) = avg r + avg s := by
  simp only [avg, Finset.sum_add_distrib, add_div]

/-- The average of a constant is the constant. -/
theorem avg_const (b : ℝ) : avg (fun _ _ => b) = b := by
  simp [avg]; ring

/-- A factor comes out of an average. -/
theorem avg_mul (b : ℝ) (r : ℕ → Fin 4096 → ℝ) : avg (fun t n => b * r t n) = b * avg r := by
  simp only [avg, ← Finset.mul_sum, mul_div_assoc]

/-- The variance is the mean of the squares less the square of the mean. -/
theorem var_eq (r : ℕ → Fin 4096 → ℝ) : var r = avg (fun t n => r t n * r t n) - avg r * avg r := by
  have h : (fun t n => (r t n - avg r) * (r t n - avg r))
      = fun t n => (r t n * r t n + (-2 * avg r) * r t n) + avg r * avg r := by
    funext t n; ring
  rw [var, h, avg_add, avg_add, avg_mul, avg_const]
  ring

/-- A variance is at least zero. -/
theorem var_nonneg (r : ℕ → Fin 4096 → ℝ) : 0 ≤ var r :=
  div_nonneg (Finset.sum_nonneg fun _ _ => Finset.sum_nonneg fun _ _ => mul_self_nonneg _) (by norm_num)

/-- The variance does not see a shift. -/
theorem var_shift (r : ℕ → Fin 4096 → ℝ) (b : ℝ) : var (fun t n => r t n + b) = var r := by
  have h : avg (fun t n => r t n + b) = avg r + b := by rw [avg_add r fun _ _ => b, avg_const]
  simp only [var, h, add_sub_add_right_eq_sub]

/-- One over the standard deviation of a field of reals is a real; the reference's root of the variance is its
    reciprocal. -/
theorem deviation (r : ℕ → Fin 4096 → ℝ) : ∃ q : ℝ, 0 < q ∧ invdev (fun t n => ((r t n : ℝ) : EReal)) = ((q⁻¹ : ℝ) : EReal) ∧
    ∀ b : ℝ, Ideal.sqrt (rvar (fun t n => ((r t n + b : ℝ) : EReal)) + small) = (q : EReal) := by
  obtain ⟨s, hs, hp⟩ := small_lit
  have hv : 0 < var r + s := add_pos_of_nonneg_of_pos (var_nonneg r) hp
  refine ⟨Real.sqrt (var r + s), Real.sqrt_pos.2 hv, ?_, fun b => ?_⟩
  · rw [invdev, meansq_coe, mean_coe, hs, ← EReal.coe_mul, ← EReal.coe_sub, ← var_eq, ← EReal.coe_add]
    show (if var r + s < 0 then (⊥ : EReal) else if var r + s = 0 then ⊤ else _) = _
    rw [if_neg hv.le.not_gt, if_neg hv.ne']
  · rw [rvar_coe, var_shift, hs, ← EReal.coe_add]
    show (if var r + s < 0 then (⊥ : EReal) else _) = _
    rw [if_neg hv.le.not_gt]

/-- What the reference normalises is a real entry plus the bias; the bias leaves the differences from the mean. -/
theorem norm_coe (r : ℕ → Fin 4096 → ℝ) (b g : ℝ) : ∃ q : ℝ, 0 < q ∧
    invdev (fun t n => ((r t n : ℝ) : EReal)) = ((q⁻¹ : ℝ) : EReal) ∧
    ∀ bt t n, norm (fun t n => ((r t n + b : ℝ) : EReal)) g bt t n = ((g * (r t n - avg r) * q⁻¹ : ℝ) : EReal) + bt := by
  obtain ⟨q, hq, hi, hr⟩ := deviation r
  refine ⟨q, hq, hi, fun bt t n => ?_⟩
  have h : avg (fun t n => r t n + b) = avg r + b := by rw [avg_add r fun _ _ => b, avg_const]
  rw [norm, hr, rmean_coe, h, ← EReal.coe_sub, ← EReal.coe_mul, div_coe_coe _ hq.ne', add_sub_add_right_eq_sub,
    div_eq_mul_inv]

/-- The reference's residual step with a normalised entry is the kernel's factor and offset. -/
theorem add_norm {f : ℕ → Fin 4096 → EReal} (hf : ∀ t n, Real' (f t n)) {b g : EReal} (hb : Real' b) (hg : Real' g)
    (x bt : EReal) (t : ℕ) (n : Fin 4096) :
    x + norm (fun t n => f t n + b) g bt t n = x + f t n * factor f g + offset f g bt := by
  choose r hr using hf
  obtain rfl : f = fun t n => ((r t n : ℝ) : EReal) := by funext t n; exact hr t n
  obtain ⟨b, rfl⟩ := hb
  obtain ⟨g, rfl⟩ := hg
  obtain ⟨q, hq, hi, hn⟩ := norm_coe r b g
  simp only [← EReal.coe_add]
  rw [hn, offset, factor, hi, mean_coe, ← EReal.coe_mul, ← EReal.coe_mul, ← EReal.coe_mul,
    show g * (r t n - avg r) * q⁻¹ = r t n * (g * q⁻¹) + -(avg r * (g * q⁻¹)) from by ring, EReal.coe_add, EReal.coe_neg,
    sub_eq_add_neg, add_assoc, add_assoc, add_comm bt]

/-- The factor of a real field with a real scale is real. -/
theorem real_factor {f : ℕ → Fin 4096 → EReal} (hf : ∀ t n, Real' (f t n)) {g : EReal} (hg : Real' g) :
    Real' (factor f g) := by
  choose r hr using hf
  obtain rfl : f = fun t n => ((r t n : ℝ) : EReal) := by funext t n; exact hr t n
  obtain ⟨q, -, hi, -⟩ := deviation r
  exact hg.mul ⟨_, hi⟩

/-! ## The router's logit -/

/-- The mean over steps and positions of reals plus one number is the mean of the reals plus that number, at the
    infinities too. -/
theorem means_add (r : Fin 4 → Fin 256 → ℝ) (bt : EReal) :
    Ideal.div (∑ t, Ideal.div (∑ i, (((r t i : ℝ) : EReal) + bt)) (Ideal.ofBits .f32 0x43800000#32))
      (Ideal.ofBits .f32 0x40800000#32) = (((∑ t, ∑ i, r t i) / 1024 : ℝ) : EReal) + bt := by
  rw [image_lit, four_lit]
  simp only [div_coe _ (show (256 : ℝ) ≠ 0 by norm_num), div_coe _ (show (4 : ℝ) ≠ 0 by norm_num)]
  induction bt with
  | bot =>
    simp only [EReal.add_bot, Finset.sum_const, Finset.card_univ, Fintype.card_fin, EReal.nsmul_eq_mul]
    rw [show ((256 : ℕ) : EReal) = ((256 : ℝ) : EReal) from rfl, show ((4 : ℕ) : EReal) = ((4 : ℝ) : EReal) from rfl,
      EReal.coe_mul_bot_of_pos (by norm_num), EReal.bot_mul_coe_of_pos (by norm_num),
      EReal.coe_mul_bot_of_pos (by norm_num), EReal.bot_mul_coe_of_pos (by norm_num)]
  | top =>
    simp only [EReal.coe_add_top, Finset.sum_const, Finset.card_univ, Fintype.card_fin, EReal.nsmul_eq_mul]
    rw [show ((256 : ℕ) : EReal) = ((256 : ℝ) : EReal) from rfl, show ((4 : ℕ) : EReal) = ((4 : ℝ) : EReal) from rfl,
      EReal.coe_mul_top_of_pos (by norm_num), EReal.top_mul_coe_of_pos (by norm_num),
      EReal.coe_mul_top_of_pos (by norm_num), EReal.top_mul_coe_of_pos (by norm_num)]
  | coe s =>
    simp only [← EReal.coe_add, coe_sum, ← EReal.coe_mul]
    congr 1
    simp only [Finset.sum_add_distrib, Finset.sum_const, Finset.card_univ, Fintype.card_fin, nsmul_eq_mul,
      ← Finset.sum_mul]
    push_cast
    ring

/-- The reference's logit, a mean of normalised entries, is the kernel's, a normalised mean. -/
theorem logit_eq {f : ℕ → Fin 4096 → EReal} (hf : ∀ t n, Real' (f t n)) {b g : EReal} (hb : Real' b) (hg : Real' g)
    (bt : EReal) (i : Fin 16) :
    Ideal.div (∑ t : Fin 4, Ideal.div (∑ j : Fin 256,
        norm (fun t n => f t n + b) g bt t.val ⟨i.val * 256 + j.val, by omega⟩) (Ideal.ofBits .f32 0x43800000#32))
      (Ideal.ofBits .f32 0x40800000#32) = logit f g bt i := by
  choose r hr using hf
  obtain rfl : f = fun t n => ((r t n : ℝ) : EReal) := by funext t n; exact hr t n
  obtain ⟨b, rfl⟩ := hb
  obtain ⟨g, rfl⟩ := hg
  obtain ⟨q, hq, hi, hn⟩ := norm_coe r b g
  simp only [← EReal.coe_add]
  simp only [hn, logit, hi, mean_coe, sum4_eq, coe_sum]
  rw [means_add, images_lit, div_coe_coe _ (by norm_num), ← EReal.coe_sub, ← EReal.coe_mul, ← EReal.coe_mul]
  congr 2
  simp only [← Finset.sum_mul, ← Finset.mul_sum, Finset.sum_sub_distrib, Finset.sum_const, Finset.card_univ,
    Fintype.card_fin, nsmul_eq_mul]
  push_cast
  ring

/-! ## The experts' sum -/

/-- The products of the convolutions and the factors, as a sum over the experts. -/
theorem acc_eq (ps : ℕ → Params) (x : Field) (t : ℕ) (n : Fin 4096) (c : Fin 128) (m : ℕ) :
    acc ps x t n c m = ∑ e ∈ Finset.range m,
      (hid1 (ps e) x t n c * ((ps e).w (bat n) * factor (fun s i => hid1 (ps e) x s i c) ((ps e).g1 c))
      + hid2 (ps e) x t n c * ((ps e).w (bat n) * factor (fun s i => hid2 (ps e) x s i c) ((ps e).g2 c))) := by
  induction m with
  | zero => rfl
  | succ m ih => rw [acc, Finset.sum_range_succ, ih, add_assoc]

/-- The offsets, as a sum over the experts. -/
theorem shift_eq (ps : ℕ → Params) (x : Field) (b : Fin 16) (c : Fin 128) (m : ℕ) :
    shift ps x b c m = ∑ e ∈ Finset.range m, (ps e).w b *
      (offset (fun s i => hid1 (ps e) x s i c) ((ps e).g1 c) ((ps e).bt1 c)
        + offset (fun s i => hid2 (ps e) x s i c) ((ps e).g2 c) ((ps e).bt2 c)) := by
  induction m with
  | zero => rfl
  | succ m ih => rw [shift, Finset.sum_range_succ, ih]

/-- A number times a sum of nonnegative weights is the sum of the products. -/
theorem mul_weights (a : EReal) (w : ℕ → EReal) (h : ∀ e, 0 ≤ w e) (m : ℕ) :
    a * ∑ e ∈ Finset.range m, w e = ∑ e ∈ Finset.range m, a * w e := by
  induction m with
  | zero => simp
  | succ m ih =>
    rw [Finset.sum_range_succ, Finset.sum_range_succ,
      EReal.left_distrib_of_nonneg (Finset.sum_nonneg fun e _ => h e) (h m), ih]

/-- The weighted sum of the experts' outputs is what the kernel computes. -/
theorem out_eq (ps : ℕ → Params) (hw : ∀ e b, 0 ≤ (ps e).w b ∧ (ps e).w b ≠ ⊤) (x : Field) (t : ℕ) (n : Fin 4096)
    (c : Fin 128) :
    ∑ e : Fin 8, (ps e).w (bat n) * half (hid2 (ps e) x) (mid (ps e) x) (ps e).g2 (ps e).bt2 t n c
      = out (fun b => ∑ e : Fin 8, (ps e).w b) ps x t n c := by
  rw [out, acc_eq, shift_eq, Fin.sum_univ_eq_sum_range (fun e => (ps e).w (bat n)) 8,
    Fin.sum_univ_eq_sum_range
      (fun e => (ps e).w (bat n) * half (hid2 (ps e) x) (mid (ps e) x) (ps e).g2 (ps e).bt2 t n c) 8,
    mul_weights _ _ fun e => (hw e _).1, ← Finset.sum_add_distrib, ← Finset.sum_add_distrib]
  refine Finset.sum_congr rfl fun e _ => ?_
  obtain ⟨h0, ht⟩ := hw e (bat n)
  rw [half, mid, half]
  simp only [EReal.left_distrib_of_nonneg_of_ne_top h0 ht]
  rw [mul_comm ((ps e).w (bat n)) (x t n c), mul_left_comm ((ps e).w (bat n)), mul_left_comm ((ps e).w (bat n))]
  abel

end Spiking

end
-- ==== Proof.Regular.lean ====
/- What the precondition says of the arrays it is stated over: the weights, the biases and the scales are real numbers, and
   no time constant is zero. -/
module

public import proofs.«01_k».proof.Pre_regular
public import proofs.«01_k».proof.Proof.Scalar
public import Idealize.ShloMosaic.Lib.ReduceAll
public import Idealize.ShloMosaic.Lib.Pointwise

@[expose] public section

noncomputable section

namespace Cert.Pre_regular

open Idealize.ShloMosaic

/-- The shape relations of the precondition's operations hold. -/
theorem shapes : Facts where
  bcast_S_S8x128x128 := by decide
  reducesTo_S8x128x128_S_d0_1_2 := by decide
  h_S_ := by decide
  bcast_S_S8x128 := by decide
  reducesTo_S8x128_S_d0_1 := by decide
  bcast_S_S8 := by decide
  reducesTo_S8_S_d0 := by decide

/-- The word `0x7F800000` is plus infinity. -/
theorem top_lit : Ideal.ofBits .f32 0x7F800000#32 = (⊤ : EReal) := by
  simp [Ideal.ofBits, Ideal.ieee]

/-- The zero word is zero. -/
theorem zero_lit : Ideal.ofBits .f32 0x00000000#32 = (0 : EReal) := by
  simp [Ideal.ofBits, Ideal.ieee]

/-- A value whose magnitude is below infinity is a real number. -/
theorem real_of_lt {a : EReal} (h : max a (-a) < ⊤) : Spiking.Real' a := by
  induction a with
  | bot => simp at h
  | coe r => exact ⟨r, rfl⟩
  | top => simp at h

/-- An array without axes has one index. -/
instance : Subsingleton S_.Idx := ⟨fun _ _ => funext fun a => a.elim0⟩

variable {s : Shape} {axes : List (Fin s.rank)}

/-- Where all of an array's magnitudes compare below infinity, all its entries are real numbers. -/
theorem reals (w : FVec Ideal s .f32) (hb : S_.BroadcastsInDim s (![] : Fin 0 → Fin s.rank)) (init : IVec S_ 1)
    (h : s.ReducesTo axes S_) (hu : 0 < S_.numel) (j : S_.Idx)
    (e : Host.reduce IntOp.andi (cmpf .olt (Host.absf w) (broadcastInDim s ![] hb (constant S_ .f32 0x7F800000#32))) init h hu j = 1#1)
    (i : s.Idx) : Spiking.Real' (w i) := by
  have hi : BitVec.ofBool (decide (max (w i) (-(w i)) < Ideal.ofBits .f32 0x7F800000#32)) = 1#1 :=
    Host.reduce_andi_all _ _ _ _ j e i
  refine real_of_lt ?_
  rw [← top_lit]
  by_contra hn
  rw [decide_eq_false hn] at hi
  exact absurd hi (by decide)

/-- Where all of an array's entries compare unequal to zero, none is zero. -/
theorem nonzero (w : FVec Ideal s .f32) (hb : S_.BroadcastsInDim s (![] : Fin 0 → Fin s.rank)) (init : IVec S_ 1)
    (h : s.ReducesTo axes S_) (hu : 0 < S_.numel) (j : S_.Idx)
    (e : Host.reduce IntOp.andi (cmpf .une w (broadcastInDim s ![] hb (constant S_ .f32 0x00000000#32))) init h hu j = 1#1)
    (i : s.Idx) : w i ≠ 0 := by
  have hi : BitVec.ofBool (decide (w i ≠ Ideal.ofBits .f32 0x00000000#32)) = 1#1 :=
    Host.reduce_andi_all _ _ _ _ j e i
  intro h0
  rw [decide_eq_false (by rw [zero_lit]; exact not_not.2 h0)] at hi
  exact absurd hi (by decide)

/-- The precondition's meaning, array by array. -/
theorem meaning [Facts] (x0 : FVec Ideal S4x16x128x16x16 .f32) (x1 : FVec Ideal S8x128x128 .f32) (x2 x3 x4 : FVec Ideal S8x128 .f32)
    (x5 : FVec Ideal S8x128x128 .f32) (x6 x7 x8 x9 : FVec Ideal S8x128 .f32) (x10 x11 x12 x13 : FVec Ideal S8 .f32)
    (e : fn (F := Ideal) x0 x1 x2 x3 x4 x5 x6 x7 x8 x9 x10 x11 x12 x13 = fun _ => 1#1) :
    (∀ i, Spiking.Real' (x1 i)) ∧ (∀ i, Spiking.Real' (x2 i)) ∧ (∀ i, Spiking.Real' (x3 i)) ∧ (∀ i, Spiking.Real' (x5 i))
      ∧ (∀ i, Spiking.Real' (x6 i)) ∧ (∀ i, Spiking.Real' (x7 i)) ∧ (∀ i, Spiking.Real' (x9 i)) ∧ (∀ i, Spiking.Real' (x10 i))
      ∧ (∀ i, Spiking.Real' (x11 i)) ∧ ∀ i, x13 i ≠ 0 := by
  have h := congrFun e (Shape.Idx.first Facts.h_S_)
  dsimp only [fn, fn_part1, fn_part2] at h
  obtain ⟨h, a13⟩ := IntOp.andi_eq_one.1 h
  obtain ⟨h, a11⟩ := IntOp.andi_eq_one.1 h
  obtain ⟨h, a10⟩ := IntOp.andi_eq_one.1 h
  obtain ⟨h, a9⟩ := IntOp.andi_eq_one.1 h
  obtain ⟨h, a7⟩ := IntOp.andi_eq_one.1 h
  obtain ⟨h, a6⟩ := IntOp.andi_eq_one.1 h
  obtain ⟨h, a5⟩ := IntOp.andi_eq_one.1 h
  obtain ⟨h, a3⟩ := IntOp.andi_eq_one.1 h
  obtain ⟨a1, a2⟩ := IntOp.andi_eq_one.1 h
  exact ⟨reals _ _ _ _ _ _ a1, reals _ _ _ _ _ _ a2, reals _ _ _ _ _ _ a3, reals _ _ _ _ _ _ a5, reals _ _ _ _ _ _ a6,
    reals _ _ _ _ _ _ a7, reals _ _ _ _ _ _ a9, reals _ _ _ _ _ _ a10, reals _ _ _ _ _ _ a11, nonzero _ _ _ _ _ _ a13⟩

end Cert.Pre_regular

end
-- ==== Proof.KSpec.lean ====
/- The kernel's body as a few named functions of arrays, at any float instance: the membrane step, the router, one
   expert, the accumulation over the experts and the four stored slabs. The last theorem says that the certificate's
   stored contents are these functions of the input blocks. -/
module

public import proofs.«01_k».proof.Proof.Gen.KernelIdeal.Frame

@[expose] public section

set_option maxRecDepth 16384

noncomputable section

namespace Cert.KernelIdeal.KSpec

open Idealize.ShloMosaic Idealize.SL.Sem Cert.KernelIdeal Cert.KernelIdeal.Gen

variable {F : FTy → Type} [FloatOps F]

/-- The array of `s` that holds the float with bit pattern `w` everywhere. -/
abbrev fill (s : Shape) (w : BitVec 32) : FVec F s .f32 := broadcast s (Scalar.ofBits .f32 w)

/-! ## The membrane -/

/-- The membrane after the input `x` is integrated with rate `k`. -/
def charge (k : F .f32) (x v : FVec F S4096x128 .f32) : FVec F S4096x128 .f32 :=
  addf v (mulf (subf x v) (broadcast S4096x128 k))

/-- Where the membrane reaches the threshold. -/
def fired (u : FVec F S4096x128 .f32) : IVec S4096x128 1 := cmpf .oge u (fill S4096x128 0x3F800000#32)

/-- The spike: one where the membrane reaches the threshold, zero elsewhere. -/
def spikes (u : FVec F S4096x128 .f32) : FVec F S4096x128 .f32 :=
  select (fired u) (fill S4096x128 0x3F800000#32) (fill S4096x128 0x00000000#32)

/-- The membrane after the hard reset. -/
def discharge (u : FVec F S4096x128 .f32) : FVec F S4096x128 .f32 :=
  select (fired u) (fill S4096x128 0x00000000#32) u

/-- The charged membrane at step `t` on the inputs `xs`, from rest. -/
def membrane (k : F .f32) (xs : ℕ → FVec F S4096x128 .f32) : ℕ → FVec F S4096x128 .f32
  | 0 => charge k (xs 0) (fill S4096x128 0x00000000#32)
  | t + 1 => charge k (xs (t + 1)) (discharge (membrane k xs t))

/-! ## The router -/

/-- The router's convolution of the spikes at step `t`. -/
def rconv (xs : ℕ → FVec F S4096x128 .f32) (wr : FVec F S128x8 .f32) (t : ℕ) : FVec F S4096x8 .f32 :=
  matmul dot_S4096x128_S128x8_S4096x8_1_0_0_1_n_n none (spikes (membrane (Scalar.ofBits .f32 0x3F000000#32) xs t)) wr
    (constant S4096x8 .f32 0x00000000#32)

/-- The sum over all rows, as a row. -/
def rcol (h : FVec F S4096x8 .f32) : FVec F S1x8 .f32 :=
  shapeCast S1x8 (multiReduction .add [0] S8 h 0x00000000#32 reduces_S4096x8_S8 (.inl rfl) rfl) shapeCasts_S8_S1x8

/-- The sum over the rows of each batch entry. -/
def rbatch (h : FVec F S4096x8 .f32) : FVec F S16x8 .f32 :=
  multiReduction .add [1] S16x8 (shapeCast S16x256x8 h shapeCasts_S4096x8_S16x256x8) 0x00000000#32
    reduces_S16x256x8_S16x8 (.inl rfl) rfl

/-- A running sum over the four steps, from zero. -/
def run4 {s : Shape} (f : ℕ → FVec F s .f32) : FVec F s .f32 :=
  addf (addf (addf (addf (fill s 0x00000000#32) (f 0)) (f 1)) (f 2)) (f 3)

/-- The router's logits. -/
def logits (h : ℕ → FVec F S4096x8 .f32) (gr btr : FVec F S1x8 .f32) : FVec F S16x8 .f32 :=
  have mu : FVec F S1x8 .f32 := divf (run4 fun t => rcol (h t)) (fill S1x8 0x46800000#32)
  have sq : FVec F S1x8 .f32 := divf (run4 fun t => rcol (mulf (h t) (h t))) (fill S1x8 0x46800000#32)
  have rs : FVec F S1x8 .f32 := rsqrt (addf (subf sq (mulf mu mu)) (fill S1x8 0x3727C5AC#32))
  addf (mulf (mulf (subf (divf (run4 fun t => rbatch (h t)) (fill S16x8 0x44800000#32))
      (broadcastTo S16x8 mu broadcasts_S1x8_S16x8)) (broadcastTo S16x8 rs broadcasts_S1x8_S16x8))
    (broadcastTo S16x8 gr broadcasts_S1x8_S16x8)) (broadcastTo S16x8 btr broadcasts_S1x8_S16x8)

/-- A column of one value per batch entry. -/
abbrev tall (a : FVec F S16 .f32) : FVec F S16x1 .f32 := shapeCast S16x1 a shapeCasts_S16_S16x1

/-- The largest entry of each row. -/
def top (p : FVec F S16x8 .f32) : FVec F S16x1 .f32 :=
  tall (multiReduction .maximumf [1] S16 p 0xFF800000#32 reduces_S16x8_S16 (.inl rfl) rfl)

/-- The sum of each row. -/
def total (p : FVec F S16x8 .f32) : FVec F S16x1 .f32 :=
  tall (multiReduction .add [1] S16 p 0x00000000#32 reduces_S16x8_S16 (.inl rfl) rfl)

/-- The experts' numbers along each row. -/
abbrev numbers : IVec S16x8 32 := iota .tc S16x8 32 [1] iota_S16x8_d1_w32

/-- The first expert at which a row reaches its largest entry. -/
def first (p : FVec F S16x8 .f32) : IVec S16x1 32 :=
  shapeCast S16x1 (multiReductionI .minsi [1] S16
    (select (cmpf .oeq p (broadcastTo S16x8 (top p) broadcasts_S16x1_S16x8)) numbers (broadcast S16x8 8#32))
    2147483647#32 reduces_S16x8_S16 rfl) shapeCasts_S16_S16x1

/-- The row with the expert `i` taken out. -/
def without (p : FVec F S16x8 .f32) (i : IVec S16x1 32) : FVec F S16x8 .f32 :=
  select (cmpi .eq numbers (broadcastTo S16x8 i broadcasts_S16x1_S16x8)) (fill S16x8 0xFF800000#32) p

/-- The probabilities: the softmax of the logits along each row. -/
def probs (l : FVec F S16x8 .f32) : FVec F S16x8 .f32 :=
  have ex : FVec F S16x8 .f32 := exp (subf l (broadcastTo S16x8 (top l) broadcasts_S16x1_S16x8))
  divf ex (broadcastTo S16x8 (total ex) broadcasts_S16x1_S16x8)

/-- The weights: the two largest probabilities of each row over their sum, zero for the other experts. -/
def weights (p : FVec F S16x8 .f32) : FVec F S16x8 .f32 :=
  have q : FVec F S16x8 .f32 := without p (first p)
  divf (select (ori (cmpi .eq numbers (broadcastTo S16x8 (first p) broadcasts_S16x1_S16x8))
      (cmpi .eq numbers (broadcastTo S16x8 (first q) broadcasts_S16x1_S16x8))) p (fill S16x8 0x00000000#32))
    (broadcastTo S16x8 (addf (top p) (top q)) broadcasts_S16x1_S16x8)

/-! ## One expert -/

/-- A convolution of the spikes at step `t`. -/
def conv (k : F .f32) (xs : ℕ → FVec F S4096x128 .f32) (w : FVec F S128x128 .f32) (t : ℕ) : FVec F S4096x128 .f32 :=
  matmul dot_S4096x128_S128x128_S4096x128_1_0_0_1_n_n none (spikes (membrane k xs t)) w
    (constant S4096x128 .f32 0x00000000#32)

/-- The sum over all rows, as a row. -/
def col (h : FVec F S4096x128 .f32) : FVec F S1x128 .f32 :=
  shapeCast S1x128 (multiReduction .add [0] S128 h 0x00000000#32 reduces_S4096x128_S128 (.inl rfl) rfl)
    shapeCasts_S128_S1x128

/-- The mean over the steps and rows. -/
def mean (h : ℕ → FVec F S4096x128 .f32) : FVec F S1x128 .f32 :=
  divf (run4 fun t => col (h t)) (fill S1x128 0x46800000#32)

/-- The normalisation's factor: the scale over the standard deviation. -/
def factor (h : ℕ → FVec F S4096x128 .f32) (g : FVec F S1x128 .f32) : FVec F S1x128 .f32 :=
  mulf g (rsqrt (addf (subf (divf (run4 fun t => col (mulf (h t) (h t))) (fill S1x128 0x46800000#32))
    (mulf (mean h) (mean h))) (fill S1x128 0x3727C5AC#32)))

/-- The normalisation's offset. -/
def offset (h : ℕ → FVec F S4096x128 .f32) (g bt : FVec F S1x128 .f32) : FVec F S1x128 .f32 :=
  subf bt (mulf (mean h) (factor h g))

/-- The residual stream after the first half of an expert. -/
def half (h xs : ℕ → FVec F S4096x128 .f32) (g bt : FVec F S1x128 .f32) (t : ℕ) : FVec F S4096x128 .f32 :=
  addf (addf (xs t) (mulf (h t) (broadcastTo S4096x128 (factor h g) broadcasts_S1x128_S4096x128)))
    (broadcastTo S4096x128 (offset h g bt) broadcasts_S1x128_S4096x128)

/-- The inputs of one expert: its weights' column, slabs, rows and time constant. -/
structure Expert (F : FTy → Type) where
  wcol : FVec F S16x1 .f32
  w1 : FVec F S128x128 .f32
  w2 : FVec F S128x128 .f32
  g1 : FVec F S1x128 .f32
  bt1 : FVec F S1x128 .f32
  g2 : FVec F S1x128 .f32
  bt2 : FVec F S1x128 .f32
  k : F .f32

/-- The first convolution of an expert. -/
def hid1 (p : Expert F) (xs : ℕ → FVec F S4096x128 .f32) : ℕ → FVec F S4096x128 .f32 := conv p.k xs p.w1

/-- The second convolution of an expert, on the residual stream. -/
def hid2 (p : Expert F) (xs : ℕ → FVec F S4096x128 .f32) : ℕ → FVec F S4096x128 .f32 :=
  conv p.k (half (hid1 p xs) xs p.g1 p.bt1) p.w2

/-- The rows as batch entries by positions. -/
abbrev split (a : FVec F S4096x128 .f32) : FVec F S16x256x128 .f32 :=
  shapeCast S16x256x128 a shapeCasts_S4096x128_S16x256x128

/-- The weight of each batch entry times a row of factors. -/
def weigh (wcol : FVec F S16x1 .f32) (f : FVec F S1x128 .f32) : FVec F S16x1x128 .f32 :=
  mulf (broadcastTo S16x1x128 (shapeCast S16x1x1 wcol shapeCasts_S16x1_S16x1x1) broadcasts_S16x1x1_S16x1x128)
    (broadcastTo S16x1x128 (shapeCast S1x1x128 f shapeCasts_S1x128_S1x1x128) broadcasts_S1x1x128_S16x1x128)

/-- One expert's part added to the accumulator of step `t`. -/
def accumulate (p : Expert F) (xs : ℕ → FVec F S4096x128 .f32) (t : ℕ) (a : FVec F S4096x128 .f32) :
    FVec F S4096x128 .f32 :=
  shapeCast S4096x128
    (addf (addf (split a) (mulf (split (hid1 p xs t))
        (broadcastTo S16x256x128 (weigh p.wcol (factor (hid1 p xs) p.g1)) broadcasts_S16x1x128_S16x256x128)))
      (mulf (split (hid2 p xs t))
        (broadcastTo S16x256x128 (weigh p.wcol (factor (hid2 p xs) p.g2)) broadcasts_S16x1x128_S16x256x128)))
    shapeCasts_S16x256x128_S4096x128

/-- One expert's offsets added to the accumulated offsets. -/
def lift (p : Expert F) (xs : ℕ → FVec F S4096x128 .f32) (s : FVec F S16x128 .f32) : FVec F S16x128 .f32 :=
  addf s (mulf (broadcastTo S16x128 p.wcol broadcasts_S16x1_S16x128)
    (broadcastTo S16x128 (addf (offset (hid1 p xs) p.g1 p.bt1) (offset (hid2 p xs) p.g2 p.bt2))
      broadcasts_S1x128_S16x128))

/-- The accumulator of step `t` after the first `n` experts. -/
def acc (ps : ℕ → Expert F) (xs : ℕ → FVec F S4096x128 .f32) (t : ℕ) : ℕ → FVec F S4096x128 .f32
  | 0 => fill S4096x128 0x00000000#32
  | n + 1 => accumulate (ps n) xs t (acc ps xs t n)

/-- The accumulated offsets after the first `n` experts. -/
def shift (ps : ℕ → Expert F) (xs : ℕ → FVec F S4096x128 .f32) : ℕ → FVec F S16x128 .f32
  | 0 => fill S16x128 0x00000000#32
  | n + 1 => lift (ps n) xs (shift ps xs n)

/-- The slab stored for step `t`. -/
def slab (ws : FVec F S16x1 .f32) (x a : FVec F S4096x128 .f32) (s : FVec F S16x128 .f32) : FVec F S1x4096x128 .f32 :=
  shapeCast S1x4096x128 (shapeCast S4096x128
    (addf (addf (mulf (split x) (broadcastTo S16x256x128 (shapeCast S16x1x1 ws shapeCasts_S16x1_S16x1x1)
        broadcasts_S16x1x1_S16x256x128)) (split a))
      (broadcastTo S16x256x128 (shapeCast S16x1x128 s shapeCasts_S16x128_S16x1x128) broadcasts_S16x1x128_S16x256x128))
    shapeCasts_S16x256x128_S4096x128) shapeCasts_S4096x128_S1x4096x128

/-! ## From the input blocks -/

/-- Slab `t` lies in the input's block. -/
theorem inbX (t : Fin 4) (a : Fin 3) : (![t.val, 0, 0] : Fin 3 → Nat) a + S1x4096x128.size a ≤ S4x4096x128.size a := by
  revert t a; decide

/-- Slab `e` lies in a block of matrices. -/
theorem inbW (e : Fin 8) (a : Fin 3) : (![e.val, 0, 0] : Fin 3 → Nat) a + S1x128x128.size a ≤ S8x128x128.size a := by
  revert e a; decide

/-- Row `e` lies in a block of rows. -/
theorem inbR (e : Fin 8) (a : Fin 2) : (![e.val, 0] : Fin 2 → Nat) a + S1x128.size a ≤ S8x128.size a := by
  revert e a; decide

/-- Entry `e` lies in the block of time constants. -/
theorem inbT (e : Fin 8) (a : Fin 2) : (![0, e.val] : Fin 2 → Nat) a + S1x1.size a ≤ S1x8.size a := by
  revert e a; decide

/-- Column `e` lies in the array of the router's weights. -/
theorem inbC (e : Fin 8) : S16x8.Slices ![0, e.val] S16x1 := by
  revert e; decide

/-- Slab `t` of the input's block. -/
abbrev rX (t : Fin 4) : Rect S4x4096x128 := Rect.unit (s := S4x4096x128) ![t.val, 0, 0] S1x4096x128.size (inbX t)
/-- Slab `e` of a block of matrices. -/
abbrev rW (e : Fin 8) : Rect S8x128x128 := Rect.unit (s := S8x128x128) ![e.val, 0, 0] S1x128x128.size (inbW e)
/-- Row `e` of a block of rows. -/
abbrev rR (e : Fin 8) : Rect S8x128 := Rect.unit (s := S8x128) ![e.val, 0] S1x128.size (inbR e)
/-- Entry `e` of the block of time constants. -/
abbrev rT (e : Fin 8) : Rect S1x8 := Rect.unit (s := S1x8) ![0, e.val] S1x1.size (inbT e)

/-- A number as one of the first `n + 1`. -/
abbrev fin (n : ℕ) (i : ℕ) : Fin (n + 1) := Fin.ofNat (n + 1) i

/-- The input's rows at step `t`. -/
def rows (x0 : Vec F S4x4096x128 .f32) (t : ℕ) : FVec F S4096x128 .f32 :=
  shapeCast S4096x128 (View.ld x0 (rX (fin 3 t))) shapeCasts_S1x4096x128_S4096x128

/-- The router's weights from the blocks it reads. -/
def dense (x0 : Vec F S4x4096x128 .f32) (x7 : Vec F S128x8 .f32) (x8 x9 : Vec F S1x8 .f32) : FVec F S16x8 .f32 :=
  weights (probs (logits (rconv (rows x0) (shapeCast S128x8 (View.ld x7 r0_4) shapeCasts_S128x8_S128x8))
    (shapeCast S1x8 (View.ld x8 r0_5) shapeCasts_S1x8_S1x8) (shapeCast S1x8 (View.ld x9 r0_5) shapeCasts_S1x8_S1x8)))

/-- Expert `e`'s inputs from the router's weights and the blocks. -/
def expert (wd : FVec F S16x8 .f32) (x1 : Vec F S8x128x128 .f32) (x2 x3 : Vec F S8x128 .f32)
    (x4 : Vec F S8x128x128 .f32) (x5 x6 : Vec F S8x128 .f32) (x10 : Vec F S1x8 .f32) (e : ℕ) : Expert F where
  wcol := extractStridedSlice S16x1 ![0, (fin 7 e).val] wd (inbC (fin 7 e))
  w1 := shapeCast S128x128 (View.ld x1 (rW (fin 7 e))) shapeCasts_S1x128x128_S128x128
  w2 := shapeCast S128x128 (View.ld x4 (rW (fin 7 e))) shapeCasts_S1x128x128_S128x128
  g1 := View.ld x2 (rR (fin 7 e))
  bt1 := View.ld x3 (rR (fin 7 e))
  g2 := View.ld x5 (rR (fin 7 e))
  bt2 := View.ld x6 (rR (fin 7 e))
  k := Scalar.divf (Scalar.ofBits .f32 0x3F800000#32) (extractAt ![0, 0] (View.ld x10 (rT (fin 7 e))) inpos_S1x1_p0_0)

/-- The slab stored for step `t`, from the input blocks. -/
def stored (x0 : Vec F S4x4096x128 .f32) (x1 : Vec F S8x128x128 .f32) (x2 x3 : Vec F S8x128 .f32)
    (x4 : Vec F S8x128x128 .f32) (x5 x6 : Vec F S8x128 .f32) (x7 : Vec F S128x8 .f32) (x8 x9 x10 : Vec F S1x8 .f32)
    (t : ℕ) : FVec F S1x4096x128 .f32 :=
  slab (total (dense x0 x7 x8 x9)) (rows x0 t)
    (acc (expert (dense x0 x7 x8 x9) x1 x2 x3 x4 x5 x6 x10) (rows x0) t 8)
    (shift (expert (dense x0 x7 x8 x9) x1 x2 x3 x4 x5 x6 x10) (rows x0) 8)

variable (x0 : Vec F S4x4096x128 .f32) (x1 : Vec F S8x128x128 .f32) (x2 x3 : Vec F S8x128 .f32)
    (x4 : Vec F S8x128x128 .f32) (x5 x6 : Vec F S8x128 .f32) (x7 : Vec F S128x8 .f32) (x8 x9 x10 : Vec F S1x8 .f32)

/-- The integration of an input, spelt out, is `charge`. -/
theorem fold_charge (k : F .f32) (x v : FVec F S4096x128 .f32) :
    addf v (mulf (subf x v) (broadcast S4096x128 k)) = charge k x v := rfl

/-- The comparison and choice of ones and zeros, spelt out, are `spikes`. -/
theorem fold_spikes (u : FVec F S4096x128 .f32) :
    select (cmpf .oge u (fill S4096x128 0x3F800000#32)) (fill S4096x128 0x3F800000#32) (fill S4096x128 0x00000000#32) =
      spikes u := rfl

/-- The comparison and choice of zero and the membrane, spelt out, are `discharge`. -/
theorem fold_discharge (u : FVec F S4096x128 .f32) :
    select (cmpf .oge u (fill S4096x128 0x3F800000#32)) (fill S4096x128 0x00000000#32) u = discharge u := rfl

set_option maxHeartbeats 4000000 in
/-- The contents the certificate gives the output block are the four slabs `stored`, one per step. -/
theorem out_eq : out0_11 x0 x1 x2 x3 x4 x5 x6 x7 x8 x9 x10 = View.canon
    [⟨r0_3, stored x0 x1 x2 x3 x4 x5 x6 x7 x8 x9 x10 3⟩, ⟨r0_2, stored x0 x1 x2 x3 x4 x5 x6 x7 x8 x9 x10 2⟩,
     ⟨r0_1, stored x0 x1 x2 x3 x4 x5 x6 x7 x8 x9 x10 1⟩, ⟨r0_0, stored x0 x1 x2 x3 x4 x5 x6 x7 x8 x9 x10 0⟩] := by
  simp only [out0_11, fold_charge, fold_spikes, fold_discharge,
    k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146,
    k0_pay147, k0_pay148, k0_pay149, k0_pay150, k0_pay151, k0_pay152, k0_pay153, k0_pay154, k0_pay155,
    k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191,
    k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236,
    k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254,
    k0_pay255, k0_pay256, k0_pay257, k0_pay258, k0_pay259, k0_pay260, k0_pay261, k0_pay262, k0_pay263,
    k0_pay264, k0_pay265, k0_pay266, k0_pay267, k0_pay268, k0_pay269, k0_pay270, k0_pay271, k0_pay272,
    k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290,
    k0_pay291, k0_pay292, k0_pay293, k0_pay294, k0_pay295, k0_pay296, k0_pay297, k0_pay298, k0_pay299,
    k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326,
    k0_pay327, k0_pay328, k0_pay329, k0_pay330, k0_pay331, k0_pay332, k0_pay333, k0_pay334, k0_pay335,
    k0_pay336, k0_pay337, k0_pay338, k0_pay339, k0_pay340, k0_pay341, k0_pay342, k0_pay343, k0_pay344,
    k0_pay345, k0_pay346, k0_pay347, k0_pay348, k0_pay349, k0_pay350, k0_pay351, k0_pay352, k0_pay353,
    k0_pay354, k0_pay355, k0_pay356, k0_pay357, k0_pay358, k0_pay359, k0_pay360, k0_pay361, k0_pay362,
    k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380,
    k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398,
    k0_pay399, k0_pay400, k0_pay401, k0_pay402, k0_pay403, k0_pay404, k0_pay405, k0_pay406, k0_pay407,
    k0_pay408, k0_pay409, k0_pay410, k0_pay411, k0_pay412, k0_pay413, k0_pay414, k0_pay415, k0_pay416,
    k0_pay417, k0_pay418, k0_pay419, k0_pay420, k0_pay421, k0_pay422, k0_pay423, k0_pay424, k0_pay425,
    k0_pay426, k0_pay427, k0_pay428, k0_pay429, k0_pay430, k0_pay431, k0_pay432, k0_pay433, k0_pay434,
    k0_pay435, k0_pay436, k0_pay437, k0_pay438, k0_pay439, k0_pay440, k0_pay441, k0_pay442, k0_pay443,
    k0_pay444, k0_pay445, k0_pay446, k0_pay447, k0_pay448, k0_pay449, k0_pay450, k0_pay451, k0_pay452,
    k0_pay453, k0_pay454, k0_pay455, k0_pay456, k0_pay457, k0_pay458, k0_pay459, k0_pay460, k0_pay461,
    k0_pay462, k0_pay463, k0_pay464, k0_pay465, k0_pay466, k0_pay467, k0_pay468, k0_pay469, k0_pay470,
    k0_pay471, k0_pay472, k0_pay473, k0_pay474, k0_pay475, k0_pay476, k0_pay477, k0_pay478, k0_pay479,
    k0_pay480, k0_pay481, k0_pay482, k0_pay483, k0_pay484, k0_pay485, k0_pay486, k0_pay487, k0_pay488,
    k0_pay489, k0_pay490, k0_pay491, k0_pay492, k0_pay493, k0_pay494, k0_pay495, k0_pay496, k0_pay497,
    k0_pay498, k0_pay499, k0_pay500, k0_pay501, k0_pay502, k0_pay503, k0_pay504, k0_pay505, k0_pay506,
    k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524,
    k0_pay525, k0_pay526, k0_pay527, k0_pay528, k0_pay529, k0_pay530, k0_pay531, k0_pay532, k0_pay533,
    k0_pay534, k0_pay535, k0_pay536, k0_pay537, k0_pay538, k0_pay539, k0_pay540, k0_pay541, k0_pay542,
    k0_pay543, k0_pay544, k0_pay545, k0_pay546, k0_pay547, k0_pay548, k0_pay549, k0_pay550, k0_pay551,
    k0_pay552, k0_pay553, k0_pay554, k0_pay555, k0_pay556, k0_pay557, k0_pay558, k0_pay559, k0_pay560,
    k0_pay561, k0_pay562, k0_pay563, k0_pay564, k0_pay565, k0_pay566, k0_pay567, k0_pay568, k0_pay569,
    k0_pay570, k0_pay571, k0_pay572, k0_pay573, k0_pay574, k0_pay575, k0_pay576, k0_pay577, k0_pay578,
    k0_pay579, k0_pay580, k0_pay581, k0_pay582, k0_pay583, k0_pay584, k0_pay585, k0_pay586, k0_pay587,
    k0_pay588, k0_pay589, k0_pay590, k0_pay591, k0_pay592, k0_pay593, k0_pay594, k0_pay595, k0_pay596,
    k0_pay597, k0_pay598, k0_pay599, k0_pay600, k0_pay601, k0_pay602, k0_pay603, k0_pay604, k0_pay605,
    k0_pay606, k0_pay607, k0_pay608, k0_pay609, k0_pay610, k0_pay611, k0_pay612, k0_pay613, k0_pay614,
    k0_pay615, k0_pay616, k0_pay617, k0_pay618, k0_pay619, k0_pay620, k0_pay621, k0_pay622, k0_pay623,
    k0_pay624, k0_pay625, k0_pay626, k0_pay627, k0_pay628, k0_pay629, k0_pay630, k0_pay631, k0_pay632,
    k0_pay633, k0_pay634, k0_pay635, k0_pay636, k0_pay637, k0_pay638, k0_pay639, k0_pay640, k0_pay641,
    k0_pay642, k0_pay643, k0_pay644, k0_pay645, k0_pay646, k0_pay647, k0_pay648, k0_pay649, k0_pay650]
  simp only [stored, slab, acc, shift, accumulate, lift, hid1, hid2, conv, membrane, half, factor, offset, mean, run4,
    weigh, expert, dense, weights, probs, logits, rconv, without, first, top, total, col, rcol, rbatch, rows]
  rfl

end Cert.KernelIdeal.KSpec

end
-- ==== Proof.KRun.lean ====
/- The kernel's run: its result array holds the four stored slabs, cut into images again, and its arguments are unchanged. -/
module

public import proofs.«01_k».proof.Proof.KSpec
public import Idealize.ShloMosaic.Lib.Pipeline.ValueKit
public import Idealize.ShloMosaic.Lib.Pointwise
public import Idealize.ShloMosaic.Lib.Claim

@[expose] public section

set_option maxRecDepth 16384

noncomputable section

namespace Cert.KernelIdeal.KRun

open Idealize.ShloMosaic Idealize.ShloMosaic.TcCoe Idealize.SL.Sem Cert.KernelIdeal Cert.KernelIdeal.Gen Cert.KernelIdeal.KSpec

variable (m : (ℓ : Loc nD τ sig) → Buf (Elt Ideal) ℓ) (ρ : Dev nD → PrngReg)

/-- Every window's block is its whole array. -/
theorem blocks (c : Dev nD) :
    iblk m c 0 t0_0 = V m c main_v1 ∧ iblk m c 1 t0_0 = V m c main_v2 ∧ iblk m c 2 t0_0 = V m c main_arg3
      ∧ iblk m c 3 t0_0 = V m c main_arg4 ∧ iblk m c 4 t0_0 = V m c main_v3 ∧ iblk m c 5 t0_0 = V m c main_arg7
      ∧ iblk m c 6 t0_0 = V m c main_arg8 ∧ iblk m c 7 t0_0 = V m c main_v4 ∧ iblk m c 8 t0_0 = V m c main_v5
      ∧ iblk m c 9 t0_0 = V m c main_v6 ∧ iblk m c 10 t0_0 = V m c main_v7 := by
  refine ⟨?_, ?_, ?_, ?_, ?_, ?_, ?_, ?_, ?_, ?_, ?_⟩
  all_goals
    funext i
    blk_simp [iblk]
    refine congrArg _ (funext fun a => Fin.ext ?_)
    fin_cases a <;> simp <;> decide +kernel

/-- The kernel's output array ends at the stored slabs of the arrays it was launched on. -/
theorem final (c : Dev nD) : (dats m 0 c).arrAt 11 cfg0.N = out0_11 (V m c main_v1) (V m c main_v2) (V m c main_arg3)
    (V m c main_arg4) (V m c main_v3) (V m c main_arg7) (V m c main_arg8) (V m c main_v4) (V m c main_v5) (V m c main_v6)
    (V m c main_v7) := by
  refine (dats m 0 c).arrAt_eq_of_after_last 11 t0_0 (by decide +kernel) _ fun j => ?_
  blk_simp
  obtain ⟨h0, h1, h2, h3, h4, h5, h6, h7, h8, h9, h10⟩ := blocks m c
  rw [after0_11, h0, h1, h2, h3, h4, h5, h6, h7, h8, h9, h10]

/-- The arrays the kernel is launched on, from the arguments. -/
theorem launched (c : Dev nD) :
    V m c main_v1 = shapeCast S4x4096x128 (transpose S4x16x16x16x128 [0, 1, 3, 4, 2] (m ((c : Thread nD τ).loc main_arg0))
        transposes_S4x16x128x16x16_S4x16x16x16x128_0_1_3_4_2) shapeCasts_S4x16x16x16x128_S4x4096x128
      ∧ V m c main_v2 = transpose S8x128x128 [0, 2, 1] (m ((c : Thread nD τ).loc main_arg1)) transposes_S8x128x128_S8x128x128_0_2_1
      ∧ V m c main_v3 = transpose S8x128x128 [0, 2, 1] (m ((c : Thread nD τ).loc main_arg5)) transposes_S8x128x128_S8x128x128_0_2_1
      ∧ V m c main_v4 = transpose S128x8 [1, 0] (m ((c : Thread nD τ).loc main_arg9)) transposes_S8x128_S128x8_1_0
      ∧ V m c main_v5 = shapeCast S1x8 (m ((c : Thread nD τ).loc main_arg11)) shapeCasts_S8_S1x8
      ∧ V m c main_v6 = shapeCast S1x8 (m ((c : Thread nD τ).loc main_arg12)) shapeCasts_S8_S1x8
      ∧ V m c main_v7 = shapeCast S1x8 (m ((c : Thread nD τ).loc main_arg13)) shapeCasts_S8_S1x8 := by
  refine ⟨?_, ?_, ?_, ?_, ?_, ?_, ?_⟩ <;> · unfold V V0; rw [List.flatten_singleton]; unfold hostOps0; after_results; try rfl

/-- What the kernel leaves in its result. -/
def result (c : Dev nD) : FVec Ideal S4x16x128x16x16 .f32 :=
  transpose S4x16x128x16x16 [0, 1, 4, 2, 3] (shapeCast S4x16x16x16x128 (out0_11 (V m c main_v1) (V m c main_v2) (V m c main_arg3)
    (V m c main_arg4) (V m c main_v3) (V m c main_arg7) (V m c main_arg8) (V m c main_v4) (V m c main_v5) (V m c main_v6)
    (V m c main_v7)) shapeCasts_S4x4096x128_S4x16x16x16x128) transposes_S4x16x16x16x128_S4x16x128x16x16_0_1_4_2_3

/-- The kernel runs, leaves the result and changes no argument. -/
theorem run : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  run_from (run_main m ρ)
  · unfold Pipeline.afterTail₀
    rw [List.flatten_singleton]; unfold hostOps1; after_results
    have h := (Pipeline.withArrays_arr (cfgs 0).spec winFacts0.arr_inj c (V0 m c) (fun w => (dats m 0 c).arrAt w (cfgs 0).N) 11).trans
      (final m c)
    show transpose S4x16x128x16x16 [0, 1, 4, 2, 3] (shapeCast S4x16x16x16x128 (Pipeline.withArrays (cfgs 0).spec c (V0 m c)
      (fun w => (dats m 0 c).arrAt w (cfgs 0).N) (Proc.tc.devRef main_v8)) shapeCasts_S4x4096x128_S4x16x16x16x128)
      transposes_S4x16x16x16x128_S4x16x128x16x16_0_1_4_2_3 = _
    rw [result, ← h]
  exacts [W_main_arg0 m _ c, W_main_arg1 m _ c, W_main_arg2 m _ c, W_main_arg5 m _ c, W_main_arg6 m _ c, W_main_arg9 m _ c,
    W_main_arg10 m _ c, W_main_arg11 m _ c, W_main_arg12 m _ c, W_main_arg13 m _ c]

/-- A slab's place among the four: where it holds an entry, the entry is the slab's. -/
theorem slab_at (s : ℕ → FVec Ideal S1x4096x128 .f32) (t : Fin 4) (n : Fin 4096) (c : Fin 128) (k : ℕ) :
    View.TileAt (Val := Elt Ideal) (S := S4x4096x128) (e := .f32) (ix3 t n c) ![k, 0, 0] S1x4096x128.size (s k) (s t.val (ix3 0 n c)) := by
  intro x hx
  have h0 : t.val = k + (x 0).val := hx 0
  have h1 : n.val = 0 + (x 1).val := hx 1
  have h2 : c.val = 0 + (x 2).val := hx 2
  have hx0 : (x 0).val < 1 := (x 0).isLt
  obtain rfl : k = t.val := by omega
  congr 1
  funext a
  match a with
  | ⟨0, _⟩ => exact Fin.ext (by show (x 0).val = 0; omega)
  | ⟨1, _⟩ => exact Fin.ext (by show (x 1).val = n.val; omega)
  | ⟨2, _⟩ => exact Fin.ext (by show (x 2).val = c.val; omega)

/-- The kernel's output at a step, a row and a channel is the step's slab there. -/
theorem out_apply (x0 : Vec Ideal S4x4096x128 .f32) (x1 : Vec Ideal S8x128x128 .f32) (x2 x3 : Vec Ideal S8x128 .f32)
    (x4 : Vec Ideal S8x128x128 .f32) (x5 x6 : Vec Ideal S8x128 .f32) (x7 : Vec Ideal S128x8 .f32) (x8 x9 x10 : Vec Ideal S1x8 .f32)
    (t : Fin 4) (n : Fin 4096) (c : Fin 128) : out0_11 x0 x1 x2 x3 x4 x5 x6 x7 x8 x9 x10 (ix3 t n c)
      = stored x0 x1 x2 x3 x4 x5 x6 x7 x8 x9 x10 t.val (ix3 0 n c) := by
  rw [out_eq]
  have h (k : ℕ) := slab_at (stored x0 x1 x2 x3 x4 x5 x6 x7 x8 x9 x10) t n c k
  exact View.canon_eq_of_allAt _ _ _ (View.cover_of_tiled_head _ _ _ rfl _)
    (View.allAt_cons_unit _ _ _ _ _ (h 3) (View.allAt_cons_unit _ _ _ _ _ (h 2) (View.allAt_cons_unit _ _ _ _ _ (h 1)
      (View.allAt_cons_unit _ _ _ _ _ (h 0) (View.allAt_nil _ _)))))

end Cert.KernelIdeal.KRun

end
-- ==== Proof.KRead.lean ====
/- The kernel's named functions read at an index, in the terms of the model: the membranes, the products, the
   normalisations, the weights, one expert, the accumulation over the experts and the stored slabs. -/
module

public import proofs.«01_k».proof.Proof.KSpec
public import proofs.«01_k».proof.Proof.Model
public import Idealize.ShloMosaic.Lib.Pointwise

@[expose] public section

set_option maxRecDepth 16384

noncomputable section

namespace Cert.KernelIdeal.KRead

open Idealize.ShloMosaic Idealize.SL.Sem Cert.KernelIdeal Cert.KernelIdeal.Gen Cert.KernelIdeal.KSpec

/-- The rows of an array of the kernel, as a field. -/
abbrev field (x : ℕ → FVec Ideal S4096x128 .f32) : Spiking.Field := fun t n c => x t (ix2 n c)

/-- The spikes at a row and a channel. -/
theorem spikes_apply (u : FVec Ideal S4096x128 .f32) (n : Fin 4096) (c : Fin 128) :
    spikes (F := Ideal) u (ix2 n c) = Spiking.ind (u (ix2 n c)) := by
  pointwise [spikes, fired, Spiking.ind]

/-- The membrane at a row and a channel. -/
theorem membrane_apply (k : EReal) (x : ℕ → FVec Ideal S4096x128 .f32) (t : ℕ) (n : Fin 4096) (c : Fin 128) :
    membrane (F := Ideal) k x t (ix2 n c) = Spiking.mem k (fun s => x s (ix2 n c)) t := by
  induction t with
  | zero => pointwise [membrane, charge, Spiking.mem]
  | succ t ih => pointwise [membrane, charge, discharge, fired, Spiking.mem, Spiking.rest, ih]

/-- A convolution at a row and a channel. -/
theorem conv_apply (k : EReal) (x : ℕ → FVec Ideal S4096x128 .f32) (w : FVec Ideal S128x128 .f32) (t : ℕ)
    (n : Fin 4096) (c : Fin 128) :
    conv (F := Ideal) k x w t (ix2 n c) = Spiking.hid k (field x) (fun d c => w (ix2 d c)) t n c := by
  pointwise [conv, spikes_apply, membrane_apply, Spiking.hid, Spiking.spike]

/-- The router's convolution at a row and an expert. -/
theorem rconv_apply (x : ℕ → FVec Ideal S4096x128 .f32) (w : FVec Ideal S128x8 .f32) (t : ℕ) (n : Fin 4096) (e : Fin 8) :
    rconv (F := Ideal) x w t (ix2 n e) =
      Spiking.hid (Ideal.ofBits .f32 0x3F000000#32) (field x) (fun d e => w (ix2 d e)) t n e := by
  pointwise [rconv, spikes_apply, membrane_apply, Spiking.hid, Spiking.spike]

/-- The sum over all rows at a channel. -/
theorem col_apply (h : FVec Ideal S4096x128 .f32) (c : Fin 128) : col (F := Ideal) h (ix2 0 c) = ∑ n, h (ix2 n c) := by
  pointwise [col]

/-- The mean at a channel. -/
theorem mean_apply (h : ℕ → FVec Ideal S4096x128 .f32) (c : Fin 128) :
    mean (F := Ideal) h (ix2 0 c) = Spiking.mean fun t n => h t (ix2 n c) := by
  pointwise [mean, run4, col_apply, Spiking.mean, Spiking.sum4]

/-- The factor at a channel. -/
theorem factor_apply (h : ℕ → FVec Ideal S4096x128 .f32) (g : FVec Ideal S1x128 .f32) (c : Fin 128) :
    factor (F := Ideal) h g (ix2 0 c) = Spiking.factor (fun t n => h t (ix2 n c)) (g (ix2 0 c)) := by
  pointwise [factor, run4, col_apply, mean_apply, Spiking.factor, Spiking.invdev, Spiking.meansq, Spiking.sum4]

/-- The offset at a channel. -/
theorem offset_apply (h : ℕ → FVec Ideal S4096x128 .f32) (g bt : FVec Ideal S1x128 .f32) (c : Fin 128) :
    offset (F := Ideal) h g bt (ix2 0 c) = Spiking.offset (fun t n => h t (ix2 n c)) (g (ix2 0 c)) (bt (ix2 0 c)) := by
  pointwise [offset, mean_apply, factor_apply, Spiking.offset]

/-- The residual stream at a row and a channel. -/
theorem half_apply (h x : ℕ → FVec Ideal S4096x128 .f32) (g bt : FVec Ideal S1x128 .f32) (t : ℕ) (n : Fin 4096)
    (c : Fin 128) : half (F := Ideal) h x g bt t (ix2 n c) =
      Spiking.half (field h) (field x) (fun c => g (ix2 0 c)) (fun c => bt (ix2 0 c)) t n c := by
  pointwise [half, factor_apply, offset_apply, Spiking.half]

/-- An expert's inputs read at their indices. -/
abbrev params (p : Expert Ideal) : Spiking.Params where
  w b := p.wcol (ix2 b 0)
  w1 d c := p.w1 (ix2 d c)
  w2 d c := p.w2 (ix2 d c)
  g1 c := p.g1 (ix2 0 c)
  bt1 c := p.bt1 (ix2 0 c)
  g2 c := p.g2 (ix2 0 c)
  bt2 c := p.bt2 (ix2 0 c)
  k := p.k

/-- The first convolution of an expert at a row and a channel. -/
theorem hid1_apply (p : Expert Ideal) (x : ℕ → FVec Ideal S4096x128 .f32) (t : ℕ) (n : Fin 4096) (c : Fin 128) :
    hid1 p x t (ix2 n c) = Spiking.hid1 (params p) (field x) t n c := conv_apply ..

/-- The second convolution of an expert at a row and a channel. -/
theorem hid2_apply (p : Expert Ideal) (x : ℕ → FVec Ideal S4096x128 .f32) (t : ℕ) (n : Fin 4096) (c : Fin 128) :
    hid2 p x t (ix2 n c) = Spiking.hid2 (params p) (field x) t n c := by
  have h : field (half (hid1 p x) x p.g1 p.bt1) = Spiking.mid (params p) (field x) := by
    funext t n c
    have h1 : field (hid1 p x) = Spiking.hid1 (params p) (field x) := by
      funext t n c
      exact hid1_apply p x t n c
    exact (half_apply ..).trans (by rw [h1]; rfl)
  exact (conv_apply ..).trans (by rw [h]; rfl)

/-- The accumulator at a row and a channel. -/
theorem acc_apply (ps : ℕ → Expert Ideal) (x : ℕ → FVec Ideal S4096x128 .f32) (t m : ℕ) (n : Fin 4096) (c : Fin 128) :
    acc ps x t m (ix2 n c) = Spiking.acc (fun e => params (ps e)) (field x) t n c m := by
  induction m with
  | zero => pointwise [acc, Spiking.acc]
  | succ m ih =>
    pointwise [acc, accumulate, weigh, factor_apply, hid1_apply, hid2_apply, ih, Spiking.acc, Spiking.bat]

/-- The accumulated offsets at a batch entry and a channel. -/
theorem shift_apply (ps : ℕ → Expert Ideal) (x : ℕ → FVec Ideal S4096x128 .f32) (m : ℕ) (b : Fin 16) (c : Fin 128) :
    shift ps x m (ix2 b c) = Spiking.shift (fun e => params (ps e)) (field x) b c m := by
  induction m with
  | zero => pointwise [shift, Spiking.shift]
  | succ m ih => pointwise [shift, lift, offset_apply, hid1_apply, hid2_apply, ih, Spiking.shift]

/-- A stored slab at a row and a channel. -/
theorem slab_apply (ws : FVec Ideal S16x1 .f32) (ps : ℕ → Expert Ideal) (x : ℕ → FVec Ideal S4096x128 .f32) (t : ℕ)
    (n : Fin 4096) (c : Fin 128) :
    slab ws (x t) (acc ps x t 8) (shift ps x 8) (ix3 0 n c) =
      Spiking.out (fun b => ws (ix2 b 0)) (fun e => params (ps e)) (field x) t n c := by
  pointwise [slab, acc_apply, shift_apply, Spiking.out, Spiking.bat]

/-- The input's slab without its unit axis. -/
theorem dropX (v : FVec Ideal S1x4096x128 .f32) (n : Fin 4096) (c : Fin 128) :
    shapeCast S4096x128 v shapeCasts_S1x4096x128_S4096x128 (ix2 n c) = v (ix3 0 n c) := by
  pointwise

/-- A matrix without its unit axis. -/
theorem dropW (v : FVec Ideal S1x128x128 .f32) (d c : Fin 128) :
    shapeCast S128x128 v shapeCasts_S1x128x128_S128x128 (ix2 d c) = v (ix3 0 d c) := by
  pointwise

/-- Slab `t` of the input's block at an index. -/
theorem ldX (x : FVec Ideal S4x4096x128 .f32) (t : Fin 4) (n : Fin 4096) (c : Fin 128) :
    shapeCast S4096x128 (View.ld (Val := Elt Ideal) (e' := .f32) x (rX t)) shapeCasts_S1x4096x128_S4096x128 (ix2 n c) =
      x (ix3 t n c) := by
  refine (dropX _ n c).trans ?_
  refine (congrFun (View.ld_unit ..) _).trans ?_
  refine congrArg x ?_
  funext a
  fin_cases a <;> exact Fin.ext (by simp)

/-- Slab `e` of a block of matrices at an index. -/
theorem ldW (x : FVec Ideal S8x128x128 .f32) (e : Fin 8) (d c : Fin 128) :
    shapeCast S128x128 (View.ld (Val := Elt Ideal) (e' := .f32) x (rW e)) shapeCasts_S1x128x128_S128x128 (ix2 d c) =
      x (ix3 e d c) := by
  refine (dropW _ d c).trans ?_
  refine (congrFun (View.ld_unit ..) _).trans ?_
  refine congrArg x ?_
  funext a
  fin_cases a <;> exact Fin.ext (by simp)

/-- Row `e` of a block of rows at an index. -/
theorem ldR (x : FVec Ideal S8x128 .f32) (e : Fin 8) (c : Fin 128) :
    (View.ld (Val := Elt Ideal) (e' := .f32) x (rR e) : FVec Ideal S1x128 .f32) (ix2 0 c) = x (ix2 e c) := by
  rw [View.ld_unit]
  pointwise

/-- Entry `e` of the block of time constants. -/
theorem ldT (x : FVec Ideal S1x8 .f32) (e : Fin 8) :
    extractAt ![0, 0] (View.ld (Val := Elt Ideal) (e' := .f32) x (rT e) : FVec Ideal S1x1 .f32) inpos_S1x1_p0_0 = x (ix2 0 e) := by
  rw [View.ld_unit]
  pointwise

/-- Column `e` of the router's weights at a batch entry. -/
theorem ldC (x : FVec Ideal S16x8 .f32) (e : Fin 8) (b : Fin 16) :
    extractStridedSlice S16x1 ![0, e.val] x (inbC e) (ix2 b 0) = x (ix2 b e) := by
  pointwise

/-- The input's rows at an index. -/
theorem rows_apply (x0 : Vec Ideal S4x4096x128 .f32) (t : ℕ) (n : Fin 4096) (c : Fin 128) :
    rows (F := Ideal) x0 t (ix2 n c) = x0 (ix3 (fin 3 t) n c) := ldX x0 (fin 3 t) n c

/-- The input's rows as a field. -/
theorem field_rows (x0 : Vec Ideal S4x4096x128 .f32) :
    field (rows (F := Ideal) x0) = fun t n c => x0 (ix3 (fin 3 t) n c) :=
  funext fun t => funext fun n => funext fun c => rows_apply x0 t n c

/-- Expert `e`'s inputs, read at their indices. -/
theorem params_expert (wd : FVec Ideal S16x8 .f32) (x1 : Vec Ideal S8x128x128 .f32) (x2 x3 : Vec Ideal S8x128 .f32)
    (x4 : Vec Ideal S8x128x128 .f32) (x5 x6 : Vec Ideal S8x128 .f32) (x10 : Vec Ideal S1x8 .f32) (e : ℕ) :
    params (expert wd x1 x2 x3 x4 x5 x6 x10 e) =
      { w := fun b => wd (ix2 b (fin 7 e))
        w1 := fun d c => x1 (ix3 (fin 7 e) d c)
        w2 := fun d c => x4 (ix3 (fin 7 e) d c)
        g1 := fun c => x2 (ix2 (fin 7 e) c)
        bt1 := fun c => x3 (ix2 (fin 7 e) c)
        g2 := fun c => x5 (ix2 (fin 7 e) c)
        bt2 := fun c => x6 (ix2 (fin 7 e) c)
        k := Ideal.div 1 (x10 (ix2 0 (fin 7 e))) } := by
  rw [Spiking.Params.mk.injEq]
  refine ⟨funext fun b => ldC wd _ b, funext fun d => funext fun c => ldW x1 _ d c,
    funext fun d => funext fun c => ldW x4 _ d c, funext fun c => ldR x2 _ c, funext fun c => ldR x3 _ c,
    funext fun c => ldR x5 _ c, funext fun c => ldR x6 _ c, ?_⟩
  refine congrArg₂ Ideal.div ?_ (ldT x10 _)
  pointwise

/-! ## The router -/

/-- The logits at a batch entry and an expert. -/
theorem logits_apply (h : ℕ → FVec Ideal S4096x8 .f32) (gr btr : FVec Ideal S1x8 .f32) (b : Fin 16) (e : Fin 8) :
    logits (F := Ideal) h gr btr (ix2 b e) =
      Spiking.logit (fun t n => h t (ix2 n e)) (gr (ix2 0 e)) (btr (ix2 0 e)) b := by
  pointwise [logits, rcol, rbatch, run4, Spiking.logit, Spiking.mean, Spiking.invdev, Spiking.meansq, Spiking.sum4]

/-- The largest entry of a row. -/
theorem top_apply (p : FVec Ideal S16x8 .f32) (b : Fin 16) :
    top (F := Ideal) p (ix2 b 0) = Spiking.largest fun e => p (ix2 b e) := by
  pointwise [top, Spiking.largest]

/-- The sum of a row. -/
theorem total_apply (p : FVec Ideal S16x8 .f32) (b : Fin 16) :
    total (F := Ideal) p (ix2 b 0) = ∑ e, p (ix2 b e) := by
  pointwise [total]

/-- The first expert of a row with the largest entry. -/
theorem first_apply (p : FVec Ideal S16x8 .f32) (b : Fin 16) :
    first (F := Ideal) p (ix2 b 0) = Spiking.firstAt fun e => p (ix2 b e) := by
  pointwise [first, top_apply, Spiking.firstAt]

/-- A row with an expert taken out. -/
theorem without_apply (p : FVec Ideal S16x8 .f32) (i : IVec S16x1 32) (b : Fin 16) (e : Fin 8) :
    without (F := Ideal) p i (ix2 b e) = Spiking.without (fun e => p (ix2 b e)) (i (ix2 b 0)) e := by
  pointwise [without, Spiking.without]

/-- The probabilities at a batch entry and an expert. -/
theorem probs_apply (l : FVec Ideal S16x8 .f32) (b : Fin 16) (e : Fin 8) :
    probs (F := Ideal) l (ix2 b e) = Spiking.softmax (fun e => l (ix2 b e)) e := by
  pointwise [probs, top_apply, total_apply, Spiking.softmax]

/-- The weights at a batch entry and an expert. -/
theorem weights_apply (p : FVec Ideal S16x8 .f32) (b : Fin 16) (e : Fin 8) :
    weights (F := Ideal) p (ix2 b e) = Spiking.weight (fun e => p (ix2 b e)) e := by
  unfold weights
  pointwise [top_apply, first_apply, without_apply, Spiking.weight]

/-- The block of the router's weights, loaded whole. -/
theorem ldWr (x : FVec Ideal S128x8 .f32) :
    shapeCast S128x8 (View.ld (Val := Elt Ideal) (e' := .f32) x r0_4) shapeCasts_S128x8_S128x8 = x := by
  refine (congrArg (shapeCast S128x8 · _) (View.ld_unit_zero (by decide) _ _)).trans ?_
  funext i
  idx_vars i
  pointwise

/-- A row of eight, loaded whole. -/
theorem ldRow (x : FVec Ideal S1x8 .f32) :
    shapeCast S1x8 (View.ld (Val := Elt Ideal) (e' := .f32) x r0_5) shapeCasts_S1x8_S1x8 = x := by
  refine (congrArg (shapeCast S1x8 · _) (View.ld_unit_zero (by decide) _ _)).trans ?_
  funext i
  idx_vars i
  obtain rfl : i0 = 0 := Subsingleton.elim _ _
  pointwise

/-- The router's weights at a batch entry and an expert, from the blocks. -/
theorem dense_apply (x0 : Vec Ideal S4x4096x128 .f32) (x7 : Vec Ideal S128x8 .f32) (x8 x9 : Vec Ideal S1x8 .f32)
    (b : Fin 16) (e : Fin 8) :
    dense (F := Ideal) x0 x7 x8 x9 (ix2 b e) = Spiking.weight (Spiking.softmax fun e =>
      Spiking.logit (fun t n => Spiking.hid (Ideal.ofBits .f32 0x3F000000#32) (fun t n c => x0 (ix3 (fin 3 t) n c))
        (fun d e => x7 (ix2 d e)) t n e) (x8 (ix2 0 e)) (x9 (ix2 0 e)) b) e := by
  unfold dense
  rw [ldWr, ldRow, ldRow, weights_apply]
  simp only [probs_apply, logits_apply, rconv_apply]
  rw [field_rows]

/-- A stored slab at a row and a channel, from the blocks. -/
theorem stored_apply (x0 : Vec Ideal S4x4096x128 .f32) (x1 : Vec Ideal S8x128x128 .f32) (x2 x3 : Vec Ideal S8x128 .f32)
    (x4 : Vec Ideal S8x128x128 .f32) (x5 x6 : Vec Ideal S8x128 .f32) (x7 : Vec Ideal S128x8 .f32)
    (x8 x9 x10 : Vec Ideal S1x8 .f32) (t : ℕ) (n : Fin 4096) (c : Fin 128) :
    stored (F := Ideal) x0 x1 x2 x3 x4 x5 x6 x7 x8 x9 x10 t (ix3 0 n c) =
      Spiking.out (fun b => ∑ e, dense (F := Ideal) x0 x7 x8 x9 (ix2 b e))
        (fun e => { w := fun b => dense (F := Ideal) x0 x7 x8 x9 (ix2 b (fin 7 e))
                    w1 := fun d c => x1 (ix3 (fin 7 e) d c)
                    w2 := fun d c => x4 (ix3 (fin 7 e) d c)
                    g1 := fun c => x2 (ix2 (fin 7 e) c)
                    bt1 := fun c => x3 (ix2 (fin 7 e) c)
                    g2 := fun c => x5 (ix2 (fin 7 e) c)
                    bt2 := fun c => x6 (ix2 (fin 7 e) c)
                    k := Ideal.div 1 (x10 (ix2 0 (fin 7 e))) })
        (fun t n c => x0 (ix3 (fin 3 t) n c)) t n c := by
  unfold stored
  rw [slab_apply]
  simp only [params_expert, total_apply]
  rw [field_rows]

end Cert.KernelIdeal.KRead

end
-- ==== Proof.RSum.lean ====
/- The rows of the images as positions (batch entry, height, width), and the reference's sums over several axes as sums
   over the steps and the rows. -/
module

public import proofs.«01_k».proof.Proof.Gen.ReferenceIdeal.Read
public import proofs.«01_k».proof.Proof.Scalar
public import Idealize.ShloMosaic.Lib.Pointwise

@[expose] public section

set_option maxRecDepth 16384

noncomputable section

namespace Cert.ReferenceIdeal.RSum

open Idealize.ShloMosaic Idealize.SL.Sem Cert.ReferenceIdeal Cert.ReferenceIdeal.Gen

/-- The row of a position. -/
def row (b h w : Fin 16) : Fin 4096 := ⟨b.val * 256 + h.val * 16 + w.val, by omega⟩

/-- The height of a row. -/
def high (n : Fin 4096) : Fin 16 := ⟨n.val / 16 % 16, by omega⟩

/-- The width of a row. -/
def wide (n : Fin 4096) : Fin 16 := ⟨n.val % 16, by omega⟩

/-- The batch entry of a position's row. -/
theorem bat_row (b h w : Fin 16) : Spiking.bat (row b h w) = b := by
  apply Fin.ext; simp only [Spiking.bat, row]; omega

/-- The height of a position's row. -/
theorem high_row (b h w : Fin 16) : high (row b h w) = h := by
  apply Fin.ext; simp only [high, row]; omega

/-- The width of a position's row. -/
theorem wide_row (b h w : Fin 16) : wide (row b h w) = w := by
  apply Fin.ext; simp only [wide, row]; omega

/-- A row is the row of its own batch entry, height and width. -/
theorem row_eta (n : Fin 4096) : row (Spiking.bat n) (high n) (wide n) = n := by
  apply Fin.ext; simp only [Spiking.bat, high, wide, row]; omega

/-- A sum over the positions is a sum over the rows. -/
theorem sum_rows (f : Fin 4096 → EReal) : ∑ b : Fin 16, ∑ h : Fin 16, ∑ w : Fin 16, f (row b h w) = ∑ n, f n := by
  simp only [← Fintype.sum_prod_type']
  exact Fintype.sum_equiv ⟨fun p : (Fin 16 × Fin 16) × Fin 16 => row p.1.1 p.1.2 p.2,
    fun n => ((Spiking.bat n, high n), wide n), fun p => by simp only [bat_row, high_row, wide_row], row_eta⟩ _ _ fun _ => rfl

/-- A sum over an image is a sum over its 256 positions. -/
theorem sum_image (f : Fin 4096 → EReal) (b : Fin 16) :
    ∑ h : Fin 16, ∑ w : Fin 16, f (row b h w) = ∑ j : Fin 256, f ⟨b.val * 256 + j.val, by omega⟩ := by
  simp only [← Fintype.sum_prod_type']
  refine Fintype.sum_equiv ⟨fun p : Fin 16 × Fin 16 => (⟨p.1.val * 16 + p.2.val, by omega⟩ : Fin 256),
    fun j => (⟨j.val / 16, by omega⟩, ⟨j.val % 16, by omega⟩), fun p => ?_, fun j => ?_⟩ _ _ fun p => ?_
  · refine Prod.ext (Fin.ext ?_) (Fin.ext ?_) <;> simp only [] <;> omega
  · apply Fin.ext; simp only []; omega
  · congr 1; apply Fin.ext; simp only [row, Equiv.coe_fn_mk]; omega

/-- The sum of an array over steps, batch entries, heights and widths, the channel third. -/
theorem sum5 (x : FVec Ideal S4x16x8x16x16 .f32) (z : FVec Ideal S_ .f32) (hz : z (Shape.Idx.first h_S_) = 0) (e : Fin 8) :
    Host.reduceAdd (F := Ideal) x z reducesTo_S4x16x8x16x16_S8_d0_1_3_4 h_S_ (ix1 e)
      = ∑ t : Fin 4, ∑ b : Fin 16, ∑ h : Fin 16, ∑ w : Fin 16, x (ix5 t b e h w) := by
  show z _ + ∑ i ∈ Finset.univ.filter (fun i => reducesTo_S4x16x8x16x16_S8_d0_1_3_4.drop i = ix1 e), x i = _
  rw [hz, zero_add]
  refine Eq.trans (b := ∑ p : Fin 4 × Fin 16 × Fin 16 × Fin 16, x (ix5 p.1 p.2.1 e p.2.2.1 p.2.2.2)) ?_
    (by simp only [Fintype.sum_prod_type])
  refine Finset.sum_nbij' (fun i => (i 0, i 1, i 3, i 4)) (fun p => ix5 p.1 p.2.1 e p.2.2.1 p.2.2.2)
    (fun _ _ => Finset.mem_univ _) (fun p _ => ?_) (fun i hi => ?_) (fun _ _ => rfl) (fun i hi => ?_)
  · refine Finset.mem_filter.2 ⟨Finset.mem_univ _, ?_⟩
    funext a; obtain rfl : a = 0 := Subsingleton.elim _ _
    exact Fin.ext (Shape.ReducesTo.drop_apply_val_of_eq reducesTo_S4x16x8x16x16_S8_d0_1_3_4 _ 0 2)
  all_goals
    have he : i 2 = e := Fin.ext ((Shape.ReducesTo.drop_apply_val_of_eq reducesTo_S4x16x8x16x16_S8_d0_1_3_4 i 0 2).symm.trans
      (congrArg Fin.val (congrFun (Finset.mem_filter.1 hi).2 0)))
    subst he
    first | exact ix5_eta i | exact congrArg x (ix5_eta i).symm

/-- The sum of an array over heights and widths, its last two axes. -/
theorem sum2 (x : FVec Ideal S4x16x8x16x16 .f32) (z : FVec Ideal S_ .f32) (hz : z (Shape.Idx.first h_S_) = 0) (t : Fin 4)
    (b : Fin 16) (e : Fin 8) :
    Host.reduceAdd (F := Ideal) x z reducesTo_S4x16x8x16x16_S4x16x8_d3_4 h_S_ (ix3 t b e)
      = ∑ h : Fin 16, ∑ w : Fin 16, x (ix5 t b e h w) := by
  show z _ + ∑ i ∈ Finset.univ.filter (fun i => reducesTo_S4x16x8x16x16_S4x16x8_d3_4.drop i = ix3 t b e), x i = _
  rw [hz, zero_add]
  refine Eq.trans (b := ∑ p : Fin 16 × Fin 16, x (ix5 t b e p.1 p.2)) ?_ (by simp only [Fintype.sum_prod_type])
  refine Finset.sum_nbij' (fun i => (i 3, i 4)) (fun p => ix5 t b e p.1 p.2)
    (fun _ _ => Finset.mem_univ _) (fun p _ => ?_) (fun i hi => ?_) (fun _ _ => rfl) (fun i hi => ?_)
  · refine Finset.mem_filter.2 ⟨Finset.mem_univ _, ?_⟩
    funext a
    match a with
    | ⟨0, _⟩ => exact Fin.ext (Shape.ReducesTo.drop_apply_val_of_eq reducesTo_S4x16x8x16x16_S4x16x8_d3_4 _ 0 0)
    | ⟨1, _⟩ => exact Fin.ext (Shape.ReducesTo.drop_apply_val_of_eq reducesTo_S4x16x8x16x16_S4x16x8_d3_4 _ 1 1)
    | ⟨2, _⟩ => exact Fin.ext (Shape.ReducesTo.drop_apply_val_of_eq reducesTo_S4x16x8x16x16_S4x16x8_d3_4 _ 2 2)
  all_goals
    have h := (Finset.mem_filter.1 hi).2
    have ht : i 0 = t := Fin.ext ((Shape.ReducesTo.drop_apply_val_of_eq reducesTo_S4x16x8x16x16_S4x16x8_d3_4 i 0 0).symm.trans
      (congrArg Fin.val (congrFun h 0)))
    have hb : i 1 = b := Fin.ext ((Shape.ReducesTo.drop_apply_val_of_eq reducesTo_S4x16x8x16x16_S4x16x8_d3_4 i 1 1).symm.trans
      (congrArg Fin.val (congrFun h 1)))
    have he : i 2 = e := Fin.ext ((Shape.ReducesTo.drop_apply_val_of_eq reducesTo_S4x16x8x16x16_S4x16x8_d3_4 i 2 2).symm.trans
      (congrArg Fin.val (congrFun h 2)))
    subst ht hb he
    first | exact ix5_eta i | exact congrArg x (ix5_eta i).symm

/-- The sum of an array of the experts over steps, batch entries, heights and widths. -/
theorem sum6 (x : FVec Ideal S8x4x16x128x16x16 .f32) (z : FVec Ideal S_ .f32) (hz : z (Shape.Idx.first h_S_) = 0)
    (e : Fin 8) (c : Fin 128) :
    Host.reduceAdd (F := Ideal) x z reducesTo_S8x4x16x128x16x16_S8x128_d1_2_4_5 h_S_ (ix2 e c)
      = ∑ t : Fin 4, ∑ b : Fin 16, ∑ h : Fin 16, ∑ w : Fin 16, x (ix6 e t b c h w) := by
  show z _ + ∑ i ∈ Finset.univ.filter (fun i => reducesTo_S8x4x16x128x16x16_S8x128_d1_2_4_5.drop i = ix2 e c), x i = _
  rw [hz, zero_add]
  refine Eq.trans (b := ∑ p : Fin 4 × Fin 16 × Fin 16 × Fin 16, x (ix6 e p.1 p.2.1 c p.2.2.1 p.2.2.2)) ?_
    (by simp only [Fintype.sum_prod_type])
  refine Finset.sum_nbij' (fun i => (i 1, i 2, i 4, i 5)) (fun p => ix6 e p.1 p.2.1 c p.2.2.1 p.2.2.2)
    (fun _ _ => Finset.mem_univ _) (fun p _ => ?_) (fun i hi => ?_) (fun _ _ => rfl) (fun i hi => ?_)
  · refine Finset.mem_filter.2 ⟨Finset.mem_univ _, ?_⟩
    funext a
    match a with
    | ⟨0, _⟩ => exact Fin.ext (Shape.ReducesTo.drop_apply_val_of_eq reducesTo_S8x4x16x128x16x16_S8x128_d1_2_4_5 _ 0 0)
    | ⟨1, _⟩ => exact Fin.ext (Shape.ReducesTo.drop_apply_val_of_eq reducesTo_S8x4x16x128x16x16_S8x128_d1_2_4_5 _ 1 3)
  all_goals
    have h := (Finset.mem_filter.1 hi).2
    have he : i 0 = e := Fin.ext ((Shape.ReducesTo.drop_apply_val_of_eq reducesTo_S8x4x16x128x16x16_S8x128_d1_2_4_5 i 0 0).symm.trans
      (congrArg Fin.val (congrFun h 0)))
    have hc : i 3 = c := Fin.ext ((Shape.ReducesTo.drop_apply_val_of_eq reducesTo_S8x4x16x128x16x16_S8x128_d1_2_4_5 i 1 3).symm.trans
      (congrArg Fin.val (congrFun h 1)))
    subst he hc
    first | exact ix6_eta i | exact congrArg x (ix6_eta i).symm

/-- The sum of an array of the experts over the experts. -/
theorem sum1 (x : FVec Ideal S8x4x16x128x16x16 .f32) (z : FVec Ideal S_ .f32) (hz : z (Shape.Idx.first h_S_) = 0)
    (t : Fin 4) (b : Fin 16) (c : Fin 128) (h w : Fin 16) :
    Host.reduceAdd (F := Ideal) x z reducesTo_S8x4x16x128x16x16_S4x16x128x16x16_d0 h_S_ (ix5 t b c h w)
      = ∑ e : Fin 8, x (ix6 e t b c h w) := by
  show z _ + ∑ i ∈ Finset.univ.filter
    (fun i => reducesTo_S8x4x16x128x16x16_S4x16x128x16x16_d0.drop i = ix5 t b c h w), x i = _
  rw [hz, zero_add]
  have hd (i : S8x4x16x128x16x16.Idx) : reducesTo_S8x4x16x128x16x16_S4x16x128x16x16_d0.drop i
      = ix5 (i 1) (i 2) (i 3) (i 4) (i 5) := by
    funext a
    match a with
    | ⟨0, _⟩ => exact Fin.ext (Shape.ReducesTo.drop_apply_val_of_eq reducesTo_S8x4x16x128x16x16_S4x16x128x16x16_d0 i 0 1)
    | ⟨1, _⟩ => exact Fin.ext (Shape.ReducesTo.drop_apply_val_of_eq reducesTo_S8x4x16x128x16x16_S4x16x128x16x16_d0 i 1 2)
    | ⟨2, _⟩ => exact Fin.ext (Shape.ReducesTo.drop_apply_val_of_eq reducesTo_S8x4x16x128x16x16_S4x16x128x16x16_d0 i 2 3)
    | ⟨3, _⟩ => exact Fin.ext (Shape.ReducesTo.drop_apply_val_of_eq reducesTo_S8x4x16x128x16x16_S4x16x128x16x16_d0 i 3 4)
    | ⟨4, _⟩ => exact Fin.ext (Shape.ReducesTo.drop_apply_val_of_eq reducesTo_S8x4x16x128x16x16_S4x16x128x16x16_d0 i 4 5)
  refine Finset.sum_nbij' (fun i => i 0) (fun e => ix6 e t b c h w)
    (fun _ _ => Finset.mem_univ _) (fun p _ => ?_) (fun i hi => ?_) (fun _ _ => rfl) (fun i hi => ?_)
  · exact Finset.mem_filter.2 ⟨Finset.mem_univ _, hd _⟩
  all_goals
    have hi := (hd i).symm.trans (Finset.mem_filter.1 hi).2
    obtain rfl : i 1 = t := congrFun hi 0
    obtain rfl : i 2 = b := congrFun hi 1
    obtain rfl : i 3 = c := congrFun hi 2
    obtain rfl : i 4 = h := congrFun hi 3
    obtain rfl : i 5 = w := congrFun hi 4
    first | exact ix6_eta i | exact congrArg x (ix6_eta i).symm

end Cert.ReferenceIdeal.RSum

end
-- ==== Proof.RRead.lean ====
/- The reference's intermediate arrays read at an index, in the terms of the model: the membranes and the spikes of the
   router and of both halves of the experts, the convolutions, the normalisations and the weighted sum. -/
module

public import proofs.«01_k».proof.Proof.RSum

@[expose] public section

set_option maxRecDepth 16384

noncomputable section

namespace Cert.ReferenceIdeal.RRead

open Idealize.ShloMosaic Idealize.SL.Sem Cert.ReferenceIdeal Cert.ReferenceIdeal.Gen Cert.ReferenceIdeal.Read
  Cert.ReferenceIdeal.RSum

/-! ## One step, as the reference's operations compute it -/

/-- The spike at one entry, in the reference's operations. -/
def fireOp (u : EReal) : EReal :=
  let one : EReal := Ideal.ofBits .f32 0x3F800000#32
  let s := Ideal.div one (one + Ideal.exp (-(Ideal.ofBits .f32 0x40800000#32 * (u - one))))
  s + (FloatOps.uitofp (F := Ideal) .f32 (FloatOps.cmpf (F := Ideal) (φ := .f32) .oge u one) - s)

/-- It is the model's spike. -/
theorem fireOp_eq (u : EReal) : fireOp u = Spiking.fire u := by
  have h : FloatOps.uitofp (F := Ideal) .f32 (FloatOps.cmpf (F := Ideal) (φ := .f32) .oge u 1) = Spiking.ind u := by
    show ((((BitVec.ofBool (decide ((1 : EReal) ≤ u))).toNat : ℝ)) : EReal) = _
    by_cases h : (1 : EReal) ≤ u <;> simp [Spiking.ind, h]
  simp only [fireOp, Ideal.ofBits_one_f32, h, Spiking.fire, Spiking.soft]

/-- The next membrane at one entry, in the reference's operations. -/
def nextOp (u x r : EReal) : EReal :=
  let v := u * (Ideal.ofBits .f32 0x3F800000#32 - fireOp u)
  v + Ideal.div (x - v) r

/-- The first membrane at one entry, in the reference's operations. -/
def firstOp (x r : EReal) : EReal :=
  Ideal.ofBits .f32 0x00000000#32 + Ideal.div (x - Ideal.ofBits .f32 0x00000000#32) r

/-- The first membrane is the model's. -/
theorem firstOp_eq (x : ℕ → EReal) (r : EReal) : firstOp (x 0) r = Spiking.charge r x 0 := by
  simp only [firstOp, Ideal.ofBits_zero_f32, Spiking.charge]

/-- The next membrane is the model's. -/
theorem nextOp_eq (x : ℕ → EReal) (r : EReal) (t : ℕ) :
    nextOp (Spiking.charge r x t) (x (t + 1)) r = Spiking.charge r x (t + 1) := by
  simp only [nextOp, Ideal.ofBits_one_f32, fireOp_eq, Spiking.charge]

/-- The images' rows, as a field. -/
def rows (x : FVec Ideal S4x16x128x16x16 .f32) : Spiking.Field := fun t n c =>
  x (ix5 (Fin.ofNat 4 t) (Spiking.bat n) c (high n) (wide n))

/-- A row of the images. -/
theorem rows_row (x : FVec Ideal S4x16x128x16x16 .f32) (t : ℕ) (b h w : Fin 16) (c : Fin 128) :
    rows x t (row b h w) c = x (ix5 (Fin.ofNat 4 t) b c h w) := by
  rw [rows, bat_row, high_row, wide_row]

variable (x0 : FVec Ideal S4x16x128x16x16 .f32) (x1 x5 : FVec Ideal S8x128x128 .f32)
  (x2 x3 x4 x6 x7 x8 : FVec Ideal S8x128 .f32) (x9 : FVec Ideal S8x128 .f32) (x10 x11 x12 x13 : FVec Ideal S8 .f32)

/-! ## The router's membranes -/

/-- The router's input at step 0. -/
theorem in0 (b : Fin 16) (c : Fin 128) (h w : Fin 16) :
    val_main_v4 (F := Ideal) x0 (ix4 b c h w) = rows x0 0 (row b h w) c := by
  rw [rows_row]
  pointwise [val_main_v4, val_main_v3]
  rfl

/-- The router's membrane at step 0. -/
theorem u0 (b : Fin 16) (c : Fin 128) (h w : Fin 16) : val_main_v8 (F := Ideal) x0 (ix4 b c h w)
    = Spiking.charge (Ideal.ofBits .f32 0x40000000#32) (fun s => rows x0 s (row b h w) c) 0 := by
  refine (show val_main_v8 (F := Ideal) x0 (ix4 b c h w)
      = firstOp (val_main_v4 (F := Ideal) x0 (ix4 b c h w)) (Ideal.ofBits .f32 0x40000000#32) from rfl).trans ?_
  rw [in0]
  exact firstOp_eq (fun s => rows x0 s (row b h w) c) _

/-- The router's input at step 1. -/
theorem in1 (b : Fin 16) (c : Fin 128) (h w : Fin 16) :
    val_main_v28 (F := Ideal) x0 (ix4 b c h w) = rows x0 1 (row b h w) c := by
  rw [rows_row]
  pointwise [val_main_v28, val_main_v27]
  rfl

/-- The router's membrane at step 1. -/
theorem u1 (b : Fin 16) (c : Fin 128) (h w : Fin 16) : val_main_v32 (F := Ideal) x0 (ix4 b c h w)
    = Spiking.charge (Ideal.ofBits .f32 0x40000000#32) (fun s => rows x0 s (row b h w) c) 1 := by
  refine (show val_main_v32 (F := Ideal) x0 (ix4 b c h w)
      = nextOp (val_main_v8 (F := Ideal) x0 (ix4 b c h w)) (val_main_v28 (F := Ideal) x0 (ix4 b c h w))
        (Ideal.ofBits .f32 0x40000000#32) from rfl).trans ?_
  rw [in1, u0]
  exact nextOp_eq (fun s => rows x0 s (row b h w) c) _ 0

/-- The router's input at step 2. -/
theorem in2 (b : Fin 16) (c : Fin 128) (h w : Fin 16) :
    val_main_v52 (F := Ideal) x0 (ix4 b c h w) = rows x0 2 (row b h w) c := by
  rw [rows_row]
  pointwise [val_main_v52, val_main_v51]
  rfl

/-- The router's membrane at step 2. -/
theorem u2 (b : Fin 16) (c : Fin 128) (h w : Fin 16) : val_main_v56 (F := Ideal) x0 (ix4 b c h w)
    = Spiking.charge (Ideal.ofBits .f32 0x40000000#32) (fun s => rows x0 s (row b h w) c) 2 := by
  refine (show val_main_v56 (F := Ideal) x0 (ix4 b c h w)
      = nextOp (val_main_v32 (F := Ideal) x0 (ix4 b c h w)) (val_main_v52 (F := Ideal) x0 (ix4 b c h w))
        (Ideal.ofBits .f32 0x40000000#32) from rfl).trans ?_
  rw [in2, u1]
  exact nextOp_eq (fun s => rows x0 s (row b h w) c) _ 1

/-- The router's input at step 3. -/
theorem in3 (b : Fin 16) (c : Fin 128) (h w : Fin 16) :
    val_main_v76 (F := Ideal) x0 (ix4 b c h w) = rows x0 3 (row b h w) c := by
  rw [rows_row]
  pointwise [val_main_v76, val_main_v75]
  rfl

/-- The router's membrane at step 3. -/
theorem u3 (b : Fin 16) (c : Fin 128) (h w : Fin 16) : val_main_v80 (F := Ideal) x0 (ix4 b c h w)
    = Spiking.charge (Ideal.ofBits .f32 0x40000000#32) (fun s => rows x0 s (row b h w) c) 3 := by
  refine (show val_main_v80 (F := Ideal) x0 (ix4 b c h w)
      = nextOp (val_main_v56 (F := Ideal) x0 (ix4 b c h w)) (val_main_v76 (F := Ideal) x0 (ix4 b c h w))
        (Ideal.ofBits .f32 0x40000000#32) from rfl).trans ?_
  rw [in3, u2]
  exact nextOp_eq (fun s => rows x0 s (row b h w) c) _ 2

/-- The router's spikes. -/
theorem spikes (t : Fin 4) (b : Fin 16) (c : Fin 128) (h w : Fin 16) : val_main_v103 (F := Ideal) x0 (ix5 t b c h w)
    = Spiking.spike (Ideal.ofBits .f32 0x3F000000#32) (rows x0) t.val (row b h w) c := by
  have e0 : val_main_v23 (F := Ideal) x0 (ix4 b c h w) = fireOp (val_main_v8 (F := Ideal) x0 (ix4 b c h w)) := rfl
  have e1 : val_main_v47 (F := Ideal) x0 (ix4 b c h w) = fireOp (val_main_v32 (F := Ideal) x0 (ix4 b c h w)) := rfl
  have e2 : val_main_v71 (F := Ideal) x0 (ix4 b c h w) = fireOp (val_main_v56 (F := Ideal) x0 (ix4 b c h w)) := rfl
  have e3 : val_main_v95 (F := Ideal) x0 (ix4 b c h w) = fireOp (val_main_v80 (F := Ideal) x0 (ix4 b c h w)) := rfl
  rw [fireOp_eq, Spiking.fire_eq, u0, Spiking.charge_eq Spiking.div_two] at e0
  rw [fireOp_eq, Spiking.fire_eq, u1, Spiking.charge_eq Spiking.div_two] at e1
  rw [fireOp_eq, Spiking.fire_eq, u2, Spiking.charge_eq Spiking.div_two] at e2
  rw [fireOp_eq, Spiking.fire_eq, u3, Spiking.charge_eq Spiking.div_two] at e3
  fin_cases t <;> pointwise [val_main_v103, val_main_v99, val_main_v100, val_main_v101, val_main_v102, Spiking.spike, e0, e1, e2, e3]

/-- The router's convolution, with its bias. -/
theorem routed (t : Fin 4) (b : Fin 16) (e : Fin 8) (h w : Fin 16) :
    val_main_v108 (F := Ideal) x0 x9 x10 (ix5 t b e h w)
      = Spiking.hid (Ideal.ofBits .f32 0x3F000000#32) (rows x0) (fun d e => x9 (ix2 e d)) t.val (row b h w) e
        + x10 (ix1 e) := by
  pointwise [val_main_v108, val_main_v107, val_main_v106, val_main_v105, val_main_v104, spikes, Spiking.hid, mul_comm]

/-- A sum over the steps and the positions of a function of the rows is its total. -/
theorem total_rows (f : ℕ → Fin 4096 → EReal) :
    ∑ t : Fin 4, ∑ b : Fin 16, ∑ h : Fin 16, ∑ w : Fin 16, f t.val (row b h w) = Spiking.total f := by
  simp only [sum_rows, Spiking.total]

/-- The number of positions less the integer zero is a positive number. -/
theorem count_sub (z : BitVec 32) (hz : z = 0#32) :
    Spiking.count - FloatOps.sitofp (F := Ideal) .f32 z = Spiking.count ∧ 0 < Spiking.count := by
  subst hz
  refine ⟨?_, ?_⟩
  · show Spiking.count - (((0#32 : BitVec 32).toInt : ℝ) : EReal) = _
    simp
  · rw [Spiking.count_lit]; exact_mod_cast (by norm_num : (0 : ℝ) < 16384)

/-- What the router normalises, for one expert. -/
abbrev pre (e : Fin 8) (t : ℕ) (n : Fin 4096) : EReal :=
  Spiking.hid (Ideal.ofBits .f32 0x3F000000#32) (rows x0) (fun d e => x9 (ix2 e d)) t n e + x10 (ix1 e)

/-- The router's mean. -/
theorem routed_mean (e : Fin 8) : val_main_v112 (F := Ideal) x0 x9 x10 (ix5 0 0 e 0 0) = Spiking.rmean (pre x0 x9 x10 e) := by
  have h : val_main_v109 (F := Ideal) x0 x9 x10 (ix1 e) = Spiking.total (pre x0 x9 x10 e) := by
    rw [val_main_v109, sum5 _ _ Ideal.ofBits_zero_f32]
    simp only [routed]
    exact total_rows (pre x0 x9 x10 e)
  pointwise [val_main_v112, val_main_v110, val_main_v111, val_main_cst_29, h, Spiking.rmean]

/-- The router's variance. -/
theorem routed_var (e : Fin 8) : val_main_v113 (F := Ideal) x0 x9 x10 (ix5 0 0 e 0 0) = Spiking.rvar (pre x0 x9 x10 e) := by
  have h : val_main_call0_v0 (F := Ideal) x0 x9 x10 (ix1 e) = Spiking.total (pre x0 x9 x10 e) := by
    rw [val_main_call0_v0, sum5 _ _ Ideal.ofBits_zero_f32]
    simp only [routed]
    exact total_rows (pre x0 x9 x10 e)
  have h3 : val_main_call0_v3 (F := Ideal) x0 x9 x10 (ix5 0 0 e 0 0) = Spiking.rmean (pre x0 x9 x10 e) := by
    pointwise [val_main_call0_v3, val_main_call0_v1, val_main_call0_v2, val_main_call0_cst_0, h, Spiking.rmean]
  have h6 (t : Fin 4) (b h w : Fin 16) : val_main_call0_v6 (F := Ideal) x0 x9 x10 (ix5 t b e h w)
      = (pre x0 x9 x10 e t.val (row b h w) - Spiking.rmean (pre x0 x9 x10 e))
        * (pre x0 x9 x10 e t.val (row b h w) - Spiking.rmean (pre x0 x9 x10 e)) := by
    pointwise [val_main_call0_v6, val_main_call0_v5, val_main_call0_v4, h3, routed]
  have h9 : val_main_call0_v9 (F := Ideal) x0 x9 x10 (ix1 e) = Spiking.total fun t n =>
      (pre x0 x9 x10 e t n - Spiking.rmean (pre x0 x9 x10 e)) * (pre x0 x9 x10 e t n - Spiking.rmean (pre x0 x9 x10 e)) := by
    rw [val_main_call0_v9, sum5 _ _ Ideal.ofBits_zero_f32]
    simp only [h6]
    exact total_rows fun t n =>
      (pre x0 x9 x10 e t n - Spiking.rmean (pre x0 x9 x10 e)) * (pre x0 x9 x10 e t n - Spiking.rmean (pre x0 x9 x10 e))
  pointwise [val_main_v113, val_main_call0_v13, val_main_call0_v12, val_main_call0_v11, val_main_call0_v10, val_main_call0_v8,
    val_main_call0_v7, val_main_c, val_main_call0_cst_1, val_main_call0_cst_3, h9, (count_sub 0#32 rfl).1, (count_sub 0#32 rfl).2, if_pos, Spiking.rvar]

/-- The router's normalised convolution. -/
theorem routed_norm (t : Fin 4) (b : Fin 16) (e : Fin 8) (h w : Fin 16) :
    val_main_v126 (F := Ideal) x0 x9 x10 x11 x12 (ix5 t b e h w)
      = Spiking.norm (pre x0 x9 x10 e) (x11 (ix1 e)) (x12 (ix1 e)) t.val (row b h w) := by
  pointwise [val_main_v126, val_main_v125, val_main_v124, val_main_v123, val_main_v122, val_main_v121, val_main_v120,
    val_main_v119, val_main_v118, val_main_v117, val_main_v116, val_main_v115, val_main_v114, val_main_cst_30, routed,
    routed_mean, routed_var, Spiking.norm]

/-- The router's logits. -/
theorem logits (b : Fin 16) (e : Fin 8) : val_main_v132 (F := Ideal) x0 x9 x10 x11 x12 (ix2 b e)
    = Ideal.div (∑ t : Fin 4, Ideal.div (∑ j : Fin 256,
        Spiking.norm (pre x0 x9 x10 e) (x11 (ix1 e)) (x12 (ix1 e)) t.val ⟨b.val * 256 + j.val, by omega⟩)
        (Ideal.ofBits .f32 0x43800000#32)) (Ideal.ofBits .f32 0x40800000#32) := by
  have h (t : Fin 4) : val_main_v127 (F := Ideal) x0 x9 x10 x11 x12 (ix3 t b e)
      = ∑ j : Fin 256, Spiking.norm (pre x0 x9 x10 e) (x11 (ix1 e)) (x12 (ix1 e)) t.val ⟨b.val * 256 + j.val, by omega⟩ := by
    rw [val_main_v127, sum2 _ _ Ideal.ofBits_zero_f32]
    simp only [routed_norm]
    exact sum_image (Spiking.norm (pre x0 x9 x10 e) (x11 (ix1 e)) (x12 (ix1 e)) t.val) b
  pointwise [val_main_v132, val_main_v131, val_main_v130, val_main_v129, val_main_v128, val_main_cst_32, val_main_cst_33,
    val_main_cst_34, h]

/-- The largest entry is not below the value it starts from. -/
theorem max_fold (p : Fin 8 → EReal) : max (Ideal.ofBits .f32 0xFF800000#32) (Finset.univ.fold max (Ideal.ofBits .f32 0xFF800000#32) p)
    = Finset.univ.fold max (Ideal.ofBits .f32 0xFF800000#32) p := by
  rw [show Ideal.ofBits .f32 0xFF800000#32 = (⊥ : EReal) from Spiking.lowest_lit]
  exact max_eq_right bot_le

/-- The router's probabilities. -/
theorem probs (b : Fin 16) (e : Fin 8) : val_main_v143 (F := Ideal) x0 x9 x10 x11 x12 (ix2 b e)
    = Spiking.softmax (fun e => val_main_v132 (F := Ideal) x0 x9 x10 x11 x12 (ix2 b e)) e := by
  pointwise [val_main_v143, val_main_v142, val_main_v141, val_main_v140, val_main_v139, val_main_v138, val_main_v137, val_main_v136,
    val_main_v135, val_main_v134, val_main_v133, val_main_cst_35, val_main_cst_36, val_main_cst_37, Spiking.softmax, Spiking.largest, max_fold]

end Cert.ReferenceIdeal.RRead

end
-- ==== Proof.RExpert.lean ====
/- The reference's experts read at an index: the spikes of both halves, the normalisation both halves share, and the
   weighted sum over the experts. -/
module

public import proofs.«01_k».proof.Proof.RRead

@[expose] public section

set_option maxRecDepth 16384

noncomputable section

namespace Cert.ReferenceIdeal.RExpert

open Idealize.ShloMosaic Idealize.SL.Sem Cert.ReferenceIdeal Cert.ReferenceIdeal.Gen Cert.ReferenceIdeal.Read
  Cert.ReferenceIdeal.RSum Cert.ReferenceIdeal.RRead

/-! ## The spikes of one half, over the four steps -/

/-- The experts' rates, over the positions. -/
def rates (r : FVec Ideal S8 .f32) : FVec Ideal S8x16x128x16x16 .f32 :=
  broadcastInDim S8x16x128x16x16 ![0, 1, 2, 3, 4] bcast_S8x1x1x1x1_S8x16x128x16x16_0_1_2_3_4
    (broadcastInDim S8x1x1x1x1 ![0] bcast_S8_S8x1x1x1x1_0 r)

/-- The membranes after the next input. -/
def next (r : FVec Ideal S8 .f32) (u a : FVec Ideal S8x16x128x16x16 .f32) : FVec Ideal S8x16x128x16x16 .f32 :=
  fun i => nextOp (u i) (a i) (rates r i)

/-- The spikes of one step, as a slab. -/
def slab (u : FVec Ideal S8x16x128x16x16 .f32) : FVec Ideal S1x8x16x128x16x16 .f32 :=
  broadcastInDim S1x8x16x128x16x16 ![1, 2, 3, 4, 5] bcast_S8x16x128x16x16_S1x8x16x128x16x16_1_2_3_4_5
    (fun i => fireOp (u i) : FVec Ideal S8x16x128x16x16 .f32)

/-- The spikes of the four steps, from the first membranes and the later inputs. -/
def stack (r : FVec Ideal S8 .f32) (u a₁ a₂ a₃ : FVec Ideal S8x16x128x16x16 .f32) : FVec Ideal S4x8x16x128x16x16 .f32 :=
  concatenate S4x8x16x128x16x16 0
    [⟨S1x8x16x128x16x16, slab u⟩, ⟨S1x8x16x128x16x16, slab (next r u a₁)⟩,
      ⟨S1x8x16x128x16x16, slab (next r (next r u a₁) a₂)⟩,
      ⟨S1x8x16x128x16x16, slab (next r (next r (next r u a₁) a₂) a₃)⟩]
    concatenates_S1x8x16x128x16x16_S1x8x16x128x16x16_S1x8x16x128x16x16_S1x8x16x128x16x16_S4x8x16x128x16x16_d0

/-- The experts' time constants spread over the images, at an index. -/
theorem rates_apply (r : FVec Ideal S8 .f32) (e : Fin 8) (b : Fin 16) (c : Fin 128) (h w : Fin 16) :
    rates r (ix5 e b c h w) = r (ix1 e) := by
  pointwise [rates]

/-- The spikes of the four steps are the spikes of the membranes the inputs charge. -/
theorem stack_apply (r : FVec Ideal S8 .f32) (u a₁ a₂ a₃ : FVec Ideal S8x16x128x16x16 .f32) (x : ℕ → EReal)
    (t : Fin 4) (e : Fin 8) (b : Fin 16) (c : Fin 128) (h w : Fin 16)
    (h0 : u (ix5 e b c h w) = Spiking.charge (r (ix1 e)) x 0) (h1 : a₁ (ix5 e b c h w) = x 1)
    (h2 : a₂ (ix5 e b c h w) = x 2) (h3 : a₃ (ix5 e b c h w) = x 3) (hr : r (ix1 e) ≠ 0) :
    stack r u a₁ a₂ a₃ (ix6 t e b c h w) = Spiking.ind (Spiking.mem (Ideal.div 1 (r (ix1 e))) x t.val) := by
  have n1 : next r u a₁ (ix5 e b c h w) = Spiking.charge (r (ix1 e)) x 1 := by
    rw [next, h0, h1, rates_apply]; exact nextOp_eq x _ 0
  have n2 : next r (next r u a₁) a₂ (ix5 e b c h w) = Spiking.charge (r (ix1 e)) x 2 := by
    rw [next, n1, h2, rates_apply]; exact nextOp_eq x _ 1
  have n3 : next r (next r (next r u a₁) a₂) a₃ (ix5 e b c h w) = Spiking.charge (r (ix1 e)) x 3 := by
    rw [next, n2, h3, rates_apply]; exact nextOp_eq x _ 2
  rw [Spiking.charge_eq fun _ => Spiking.div_eq_mul hr] at h0 n1 n2 n3
  have s (v : FVec Ideal S8x16x128x16x16 .f32) : slab v (ix6 0 e b c h w) = Spiking.ind (v (ix5 e b c h w)) := by
    pointwise [slab, fireOp_eq, Spiking.fire_eq]
  fin_cases t <;> pointwise [stack, s, h0, n1, n2, n3]

/-! ## The normalisation of one half -/

/-- The sums over steps and positions, spread over the unit axes. -/
def sums (z : FVec Ideal S8x4x16x128x16x16 .f32) : FVec Ideal S8x1x1x128x1x1 .f32 :=
  broadcastInDim S8x1x1x128x1x1 ![0, 3] bcast_S8x128_S8x1x1x128x1x1_0_3
    (Host.reduceAdd z (constant (F := Ideal) S_ .f32 0x00000000#32) reducesTo_S8x4x16x128x16x16_S8x128_d1_2_4_5 h_S_)

/-- One number per expert and channel, over steps and positions. -/
def spread (v : FVec Ideal S8x1x1x128x1x1 .f32) : FVec Ideal S8x4x16x128x16x16 .f32 :=
  broadcastInDim S8x4x16x128x16x16 ![0, 1, 2, 3, 4, 5] bcast_S8x1x1x128x1x1_S8x4x16x128x16x16_0_1_2_3_4_5 v

/-- A literal for every expert and channel. -/
def lit (v : FVec Ideal S_ .f32) : FVec Ideal S8x1x1x128x1x1 .f32 :=
  broadcastInDim S8x1x1x128x1x1 ![] bcast_S_S8x1x1x128x1x1 v

/-- The means. -/
def means (z : FVec Ideal S8x4x16x128x16x16 .f32) : FVec Ideal S8x1x1x128x1x1 .f32 :=
  Host.divf (sums z) (lit (constant (F := Ideal) S_ .f32 0x46800000#32))

/-- The number of positions less the integer zero. -/
def positions : FVec Ideal S_ .f32 :=
  subf (constant (F := Ideal) S_ .f32 0x46800000#32) (sitofp .f32 (constantI S_ 32 0#32))

/-- The distances from the means, squared. -/
def squares (z : FVec Ideal S8x4x16x128x16x16 .f32) : FVec Ideal S8x4x16x128x16x16 .f32 :=
  mulf (subf z (spread (means z))) (subf z (spread (means z)))

/-- The variances. -/
def vars (z : FVec Ideal S8x4x16x128x16x16 .f32) : FVec Ideal S8x1x1x128x1x1 .f32 :=
  select (broadcastInDim S8x1x1x128x1x1 ![] bcast_S_S8x1x1x128x1x1
      (cmpf .ogt positions (constant (F := Ideal) S_ .f32 0x00000000#32)))
    (Host.divf (sums (squares z)) (lit positions))
    (broadcastInDim S8x1x1x128x1x1 ![1, 2, 3, 4, 5] bcast_S1x1x128x1x1_S8x1x1x128x1x1_1_2_3_4_5
      (broadcastInDim S1x1x128x1x1 ![] bcast_S_S1x1x128x1x1 (constant (F := Ideal) S_ .f32 0x7FC00000#32)))

/-- The normalised entries. -/
def normed (z : FVec Ideal S8x4x16x128x16x16 .f32) (g bt : FVec Ideal S8x128 .f32) : FVec Ideal S8x4x16x128x16x16 .f32 :=
  addf (Host.divf
      (mulf (spread (shapeCast _ g shapeCasts_S8x128_S8x1x1x128x1x1)) (subf z (spread (means z))))
      (spread (Host.sqrt (addf (vars z) (lit (constant (F := Ideal) S_ .f32 0x3727C5AC#32))))))
    (spread (shapeCast _ bt shapeCasts_S8x128_S8x1x1x128x1x1))

variable {z : FVec Ideal S8x4x16x128x16x16 .f32} {e : Fin 8} {c : Fin 128} {f : ℕ → Fin 4096 → EReal}

/-- The sums of the entries of a function of the rows. -/
theorem sums_apply (hz : ∀ (t : Fin 4) (b h w : Fin 16), z (ix6 e t b c h w) = f t.val (row b h w)) :
    sums z (ix6 e 0 0 c 0 0) = Spiking.total f := by
  have h : Host.reduceAdd (F := Ideal) z (constant (F := Ideal) S_ .f32 0x00000000#32)
      reducesTo_S8x4x16x128x16x16_S8x128_d1_2_4_5 h_S_ (ix2 e c) = Spiking.total f := by
    rw [sum6 _ _ Ideal.ofBits_zero_f32]
    simp only [hz]
    exact total_rows f
  pointwise [sums, h]

/-- A value per expert and channel spread over the images, at an index. -/
theorem spread_apply (v : FVec Ideal S8x1x1x128x1x1 .f32) (t : Fin 4) (b h w : Fin 16) :
    spread v (ix6 e t b c h w) = v (ix6 e 0 0 c 0 0) := by
  pointwise [spread]

/-- The mean over the images is the model's mean of the rows' values. -/
theorem means_apply (hz : ∀ (t : Fin 4) (b h w : Fin 16), z (ix6 e t b c h w) = f t.val (row b h w)) :
    means z (ix6 e 0 0 c 0 0) = Spiking.rmean f := by
  pointwise [means, lit, sums_apply hz, Spiking.rmean]

/-- The squared distance from the mean, at an index. -/
theorem squares_apply (hz : ∀ (t : Fin 4) (b h w : Fin 16), z (ix6 e t b c h w) = f t.val (row b h w)) (t : Fin 4)
    (b h w : Fin 16) : squares z (ix6 e t b c h w)
      = (fun t n => (f t n - Spiking.rmean f) * (f t n - Spiking.rmean f)) t.val (row b h w) := by
  pointwise [squares, spread_apply, means_apply hz, hz]

/-- The variance over the images is the model's variance of the rows' values. -/
theorem vars_apply (hz : ∀ (t : Fin 4) (b h w : Fin 16), z (ix6 e t b c h w) = f t.val (row b h w)) :
    vars z (ix6 e 0 0 c 0 0) = Spiking.rvar f := by
  pointwise [vars, lit, positions,
    sums_apply (f := fun t n => (f t n - Spiking.rmean f) * (f t n - Spiking.rmean f)) (squares_apply hz), (count_sub 0#32 rfl).1, (count_sub 0#32 rfl).2, if_pos,
    Spiking.rvar]

/-- The normalised entries of a function of the rows. -/
theorem normed_apply (hz : ∀ (t : Fin 4) (b h w : Fin 16), z (ix6 e t b c h w) = f t.val (row b h w))
    (g bt : FVec Ideal S8x128 .f32) (t : Fin 4) (b h w : Fin 16) :
    normed z g bt (ix6 e t b c h w) = Spiking.norm f (g (ix2 e c)) (bt (ix2 e c)) t.val (row b h w) := by
  pointwise [normed, lit, spread_apply, means_apply hz, vars_apply hz, hz, Spiking.norm]

/-! ## The experts -/

section Experts

variable (x0 : FVec Ideal S4x16x128x16x16 .f32) (x1 x5 : FVec Ideal S8x128x128 .f32)
  (x2 x3 x4 x6 x7 x8 : FVec Ideal S8x128 .f32) (x13 : FVec Ideal S8 .f32) (wd : FVec Ideal S16x8 .f32)

/-- One expert of the model, from the arrays and the weights `wd`. -/
def expert (e : ℕ) : Spiking.Params where
  w b := wd (ix2 b (Fin.ofNat 8 e))
  w1 d c := x1 (ix3 (Fin.ofNat 8 e) c d)
  w2 d c := x5 (ix3 (Fin.ofNat 8 e) c d)
  g1 c := x3 (ix2 (Fin.ofNat 8 e) c)
  bt1 c := x4 (ix2 (Fin.ofNat 8 e) c)
  g2 c := x7 (ix2 (Fin.ofNat 8 e) c)
  bt2 c := x8 (ix2 (Fin.ofNat 8 e) c)
  k := Ideal.div 1 (x13 (ix1 (Fin.ofNat 8 e)))

/-- The expert numbered by a number below eight. -/
theorem ofNat_val (e : Fin 8) : Fin.ofNat 8 e.val = e := by
  apply Fin.ext; simp [Fin.ofNat]

/-- The spikes of the first half. -/
theorem spikes1 (hr : ∀ e : Fin 8, x13 (ix1 e) ≠ 0) (t : Fin 4) (e : Fin 8) (b : Fin 16) (c : Fin 128) (h w : Fin 16) :
    val_main_v283 (F := Ideal) x0 x13 (ix6 t e b c h w)
      = Spiking.spike (Ideal.div 1 (x13 (ix1 e))) (rows x0) t.val (row b h w) c := by
  have hs : val_main_v283 (F := Ideal) x0 x13 = stack x13 (val_main_v179 (F := Ideal) x0 x13) (val_main_v201 (F := Ideal) x0)
      (val_main_v228 (F := Ideal) x0) (val_main_v255 (F := Ideal) x0) := rfl
  rw [hs]
  refine stack_apply x13 _ _ _ _ (fun s => rows x0 s (row b h w) c) t e b c h w ?_ ?_ ?_ ?_ (hr e)
  · pointwise [val_main_v179, val_main_v178, val_main_v177, val_main_v168, val_main_cst_44, val_main_v176, val_main_v175, val_main_v173, val_main_v174,
      val_main_v172, val_main_v171, val_main_v170, val_main_v169, rows_row, Spiking.charge]
    rfl
  · pointwise [val_main_v201, val_main_v200, val_main_v199, val_main_v198, rows_row]
    rfl
  · pointwise [val_main_v228, val_main_v227, val_main_v226, val_main_v225, rows_row]
    rfl
  · pointwise [val_main_v255, val_main_v254, val_main_v253, val_main_v252, rows_row]
    rfl

/-- The first convolution, with its bias. -/
theorem conv1 (hr : ∀ e : Fin 8, x13 (ix1 e) ≠ 0) (e : Fin 8) (t : Fin 4) (b : Fin 16) (c : Fin 128) (h w : Fin 16) :
    val_main_v288 (F := Ideal) x0 x1 x2 x13 (ix6 e t b c h w)
      = (fun t n => Spiking.hid1 (expert x1 x5 x3 x4 x7 x8 x13 wd e.val) (rows x0) t n c + x2 (ix2 e c)) t.val (row b h w) := by
  pointwise [val_main_v288, val_main_v287, val_main_v286, val_main_v285, val_main_v284, spikes1 x0 x13 hr, Spiking.hid1,
    Spiking.hid, expert, ofNat_val, mul_comm]

/-- The residual stream between the halves. -/
theorem middle (hr : ∀ e : Fin 8, x13 (ix1 e) ≠ 0) (h1 : ∀ i, Spiking.Real' (x1 i)) (h2 : ∀ i, Spiking.Real' (x2 i))
    (h3 : ∀ i, Spiking.Real' (x3 i)) (e : Fin 8) (t : Fin 4) (b : Fin 16) (c : Fin 128) (h w : Fin 16) :
    val_main_v309 (F := Ideal) x0 x1 x2 x3 x4 x13 (ix6 e t b c h w)
      = Spiking.mid (expert x1 x5 x3 x4 x7 x8 x13 wd e.val) (rows x0) t.val (row b h w) c := by
  have hn : val_main_v306 (F := Ideal) x0 x1 x2 x3 x4 x13 = normed (val_main_v288 (F := Ideal) x0 x1 x2 x13) x3 x4 := rfl
  have hx : val_main_v308 (F := Ideal) x0 (ix6 e t b c h w) = rows x0 t.val (row b h w) c := by
    pointwise [val_main_v308, val_main_v307, rows_row]
    fin_cases t <;> rfl
  show val_main_v308 (F := Ideal) x0 (ix6 e t b c h w) + val_main_v306 (F := Ideal) x0 x1 x2 x3 x4 x13 (ix6 e t b c h w) = _
  rw [hx, hn, normed_apply (f := fun t n => Spiking.hid1 (expert x1 x5 x3 x4 x7 x8 x13 wd e.val) (rows x0) t n c + x2 (ix2 e c))
      (fun t b h w => conv1 x0 x1 x5 x2 x3 x4 x7 x8 x13 wd hr e t b c h w) x3 x4,
    Spiking.add_norm (f := fun t n => Spiking.hid1 (expert x1 x5 x3 x4 x7 x8 x13 wd e.val) (rows x0) t n c)
      (fun _ _ => Spiking.real_hid _ _ (fun d c => h1 _) _ _ _) (h2 _) (h3 _)]
  simp only [Spiking.mid, Spiking.half, expert, ofNat_val]

/-- The spikes of the second half. -/
theorem spikes2 (hr : ∀ e : Fin 8, x13 (ix1 e) ≠ 0) (h1 : ∀ i, Spiking.Real' (x1 i)) (h2 : ∀ i, Spiking.Real' (x2 i))
    (h3 : ∀ i, Spiking.Real' (x3 i)) (t : Fin 4) (e : Fin 8) (b : Fin 16) (c : Fin 128) (h w : Fin 16) :
    val_main_v421 (F := Ideal) x0 x1 x2 x3 x4 x13 (ix6 t e b c h w)
      = Spiking.spike (Ideal.div 1 (x13 (ix1 e))) (Spiking.mid (expert x1 x5 x3 x4 x7 x8 x13 wd e.val) (rows x0)) t.val
          (row b h w) c := by
  have hs : val_main_v421 (F := Ideal) x0 x1 x2 x3 x4 x13 = stack x13 (val_main_v323 (F := Ideal) x0 x1 x2 x3 x4 x13)
      (val_main_v343 (F := Ideal) x0 x1 x2 x3 x4 x13) (val_main_v368 (F := Ideal) x0 x1 x2 x3 x4 x13)
      (val_main_v393 (F := Ideal) x0 x1 x2 x3 x4 x13) := rfl
  have hm := middle x0 x1 x5 x2 x3 x4 x7 x8 x13 wd hr h1 h2 h3
  rw [hs]
  refine stack_apply x13 _ _ _ _
    (fun s => Spiking.mid (expert x1 x5 x3 x4 x7 x8 x13 wd e.val) (rows x0) s (row b h w) c) t e b c h w ?_ ?_ ?_ ?_ (hr e)
  · pointwise [val_main_v323, val_main_v322, val_main_v321, val_main_v312, val_main_cst_73, val_main_v320, val_main_v319, val_main_v318,
      val_main_v317, val_main_v316, val_main_v315, val_main_v314, val_main_v313, hm, Spiking.charge]
  · pointwise [val_main_v343, val_main_v342, hm]
  · pointwise [val_main_v368, val_main_v367, hm]
  · pointwise [val_main_v393, val_main_v392, hm]

/-- The second convolution, with its bias. -/
theorem conv2 (hr : ∀ e : Fin 8, x13 (ix1 e) ≠ 0) (h1 : ∀ i, Spiking.Real' (x1 i)) (h2 : ∀ i, Spiking.Real' (x2 i))
    (h3 : ∀ i, Spiking.Real' (x3 i)) (e : Fin 8) (t : Fin 4) (b : Fin 16) (c : Fin 128) (h w : Fin 16) :
    val_main_v426 (F := Ideal) x0 x1 x2 x3 x4 x5 x6 x13 (ix6 e t b c h w)
      = (fun t n => Spiking.hid2 (expert x1 x5 x3 x4 x7 x8 x13 wd e.val) (rows x0) t n c + x6 (ix2 e c)) t.val (row b h w) := by
  pointwise [val_main_v426, val_main_v425, val_main_v424, val_main_v423, val_main_v422,
    spikes2 x0 x1 x5 x2 x3 x4 x7 x8 x13 wd hr h1 h2 h3, Spiking.hid2, Spiking.hid, expert, ofNat_val, mul_comm]

/-- The output of an expert. -/
theorem expert_out (hr : ∀ e : Fin 8, x13 (ix1 e) ≠ 0) (h1 : ∀ i, Spiking.Real' (x1 i)) (h2 : ∀ i, Spiking.Real' (x2 i))
    (h3 : ∀ i, Spiking.Real' (x3 i)) (h5 : ∀ i, Spiking.Real' (x5 i)) (h6 : ∀ i, Spiking.Real' (x6 i))
    (h7 : ∀ i, Spiking.Real' (x7 i)) (e : Fin 8) (t : Fin 4) (b : Fin 16) (c : Fin 128) (h w : Fin 16) :
    val_main_v445 (F := Ideal) x0 x1 x2 x3 x4 x5 x6 x7 x8 x13 (ix6 e t b c h w)
      = Spiking.half (Spiking.hid2 (expert x1 x5 x3 x4 x7 x8 x13 wd e.val) (rows x0))
          (Spiking.mid (expert x1 x5 x3 x4 x7 x8 x13 wd e.val) (rows x0))
          (expert x1 x5 x3 x4 x7 x8 x13 wd e.val).g2 (expert x1 x5 x3 x4 x7 x8 x13 wd e.val).bt2 t.val (row b h w) c := by
  have hn : val_main_v444 (F := Ideal) x0 x1 x2 x3 x4 x5 x6 x7 x8 x13
      = normed (val_main_v426 (F := Ideal) x0 x1 x2 x3 x4 x5 x6 x13) x7 x8 := rfl
  show val_main_v444 (F := Ideal) x0 x1 x2 x3 x4 x5 x6 x7 x8 x13 (ix6 e t b c h w)
    + val_main_v309 (F := Ideal) x0 x1 x2 x3 x4 x13 (ix6 e t b c h w) = _
  rw [middle x0 x1 x5 x2 x3 x4 x7 x8 x13 wd hr h1 h2 h3, hn,
    normed_apply (f := fun t n => Spiking.hid2 (expert x1 x5 x3 x4 x7 x8 x13 wd e.val) (rows x0) t n c + x6 (ix2 e c))
      (fun t b h w => conv2 x0 x1 x5 x2 x3 x4 x6 x7 x8 x13 wd hr h1 h2 h3 e t b c h w) x7 x8, add_comm,
    Spiking.add_norm (f := fun t n => Spiking.hid2 (expert x1 x5 x3 x4 x7 x8 x13 wd e.val) (rows x0) t n c)
      (fun _ _ => Spiking.real_hid _ _ (fun d c => h5 _) _ _ _) (h6 _) (h7 _)]
  simp only [Spiking.half, expert, ofNat_val]

/-- The weighted sum of the experts' outputs. -/
theorem result (x9 : FVec Ideal S8x128 .f32) (x10 x11 x12 : FVec Ideal S8 .f32)
    (hr : ∀ e : Fin 8, x13 (ix1 e) ≠ 0) (h1 : ∀ i, Spiking.Real' (x1 i)) (h2 : ∀ i, Spiking.Real' (x2 i))
    (h3 : ∀ i, Spiking.Real' (x3 i)) (h5 : ∀ i, Spiking.Real' (x5 i)) (h6 : ∀ i, Spiking.Real' (x6 i))
    (h7 : ∀ i, Spiking.Real' (x7 i))
    (hw : ∀ b e, 0 ≤ val_main_v165 (F := Ideal) x0 x9 x10 x11 x12 (ix2 b e) ∧ val_main_v165 (F := Ideal) x0 x9 x10 x11 x12 (ix2 b e) ≠ ⊤)
    (t : Fin 4) (b : Fin 16) (c : Fin 128) (h w : Fin 16) :
    val_main_v450 (F := Ideal) x0 x1 x2 x3 x4 x5 x6 x7 x8 x9 x10 x11 x12 x13 (ix5 t b c h w)
      = Spiking.out (fun b => ∑ e : Fin 8, val_main_v165 (F := Ideal) x0 x9 x10 x11 x12 (ix2 b e))
          (expert x1 x5 x3 x4 x7 x8 x13 (val_main_v165 (F := Ideal) x0 x9 x10 x11 x12)) (rows x0) t.val (row b h w) c := by
  have hk (e : Fin 8) : val_main_v448 (F := Ideal) x0 x9 x10 x11 x12 (ix6 e t b c h w)
      = val_main_v165 (F := Ideal) x0 x9 x10 x11 x12 (ix2 b e) := by
    pointwise [val_main_v448, val_main_v447, val_main_v446]
  have ho := Spiking.out_eq (expert x1 x5 x3 x4 x7 x8 x13 (val_main_v165 (F := Ideal) x0 x9 x10 x11 x12))
    (fun e b => hw b _) (rows x0) t.val (row b h w) c
  simp only [← expert_out x0 x1 x5 x2 x3 x4 x6 x7 x8 x13 (val_main_v165 (F := Ideal) x0 x9 x10 x11 x12) hr h1 h2 h3 h5 h6 h7]
    at ho
  have hq : (fun b => ∑ e : Fin 8, (expert x1 x5 x3 x4 x7 x8 x13 (val_main_v165 (F := Ideal) x0 x9 x10 x11 x12) e.val).w b)
      = fun b => ∑ e : Fin 8, val_main_v165 (F := Ideal) x0 x9 x10 x11 x12 (ix2 b e) := by
    simp only [expert, ofNat_val]
  rw [hq] at ho
  rw [← ho]
  rw [val_main_v450, sum1 _ _ Ideal.ofBits_zero_f32]
  pointwise [val_main_v449, hk, expert, ofNat_val, bat_row]

end Experts

end Cert.ReferenceIdeal.RExpert

end
-- ==== Proof.Router.lean ====
/- The two greatest probabilities: the kernel's two rounds of taking the greatest entry and removing it pick the entries
   a stable sort puts first and second, and the weights built from them agree. -/
module

public import proofs.«01_k».proof.Proof.Scalar
public import Idealize.ShloMosaic.Lib.SortFacts

@[expose] public section

noncomputable section

namespace Spiking

open Idealize.ShloMosaic

/-! ## The order of a stable sort by the greater entry -/

/-- The greater entry first. -/
def gt (p : Fin 8 → EReal) (a b : Fin 8) : Bool := decide (p b < p a)

/-- The greater entry first, equal entries by their numbers. -/
def lex (p : Fin 8 → EReal) (a b : Fin 8) : Bool := decide (p b < p a ∨ (p a = p b ∧ a < b))

/-- A stable sort of increasing numbers by the greater entry orders equal entries by their numbers. -/
theorem stableSort_gt (p : Fin 8 → EReal) (l : List (Fin 8)) (hl : l.Pairwise (· < ·)) :
    stableSort (gt p) l = stableSort (lex p) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [gt, lex, hab.not_gt]

/-- The number a stable sort by the greater entry puts at position `k`. -/
def rank (p : Fin 8 → EReal) (k : Fin 8) : Fin 8 := sortedFrom (gt p) k

/-- The ranking is the stable sort of the entries from the greatest down. -/
theorem rank_eq (p : Fin 8 → EReal) : rank p = sortedFrom (lex p) := by
  funext k
  unfold rank sortedFrom
  rw [List.get_of_eq (show sortPositions 8 (gt p) = sortPositions 8 (lex p) from
    stableSort_gt p _ (List.pairwise_lt_finRange 8))]
  rfl

/-- No expert has two ranks. -/
theorem rank_injective (p : Fin 8 → EReal) : Function.Injective (rank p) := sortedFrom_injective _

/-- An earlier position's entry comes before a later one's. -/
theorem rank_lt (p : Fin 8 → EReal) {i j : Fin 8} (h : i < j) :
    p (rank p j) < p (rank p i) ∨ (p (rank p i) = p (rank p j) ∧ rank p i < rank p j) := by
  have hn := sortedFrom_noInversion (lex p) (lex p)
    (fun a b h => by
      simp only [lex, decide_eq_true_eq, decide_eq_false_iff_not] at h ⊢
      rintro (h' | ⟨h', hb⟩)
      · exact h.elim (fun h => lt_asymm h h') fun h => h'.ne h.1
      · exact h.elim (fun h => h.ne h') fun h => lt_asymm h.2 hb)
    (fun a b h => h)
    (fun a b c hab hbc => by
      simp only [lex, decide_eq_false_iff_not, not_or, not_and, not_lt] at hab hbc ⊢
      refine ⟨hab.1.trans hbc.1, fun hac => ?_⟩
      have h1 : p a = p b := le_antisymm hab.1 (hbc.1.trans_eq hac.symm)
      exact (hbc.2 (h1.symm.trans hac)).trans (hab.2 h1))
    i j h
  rw [← rank_eq] at hn
  simp only [lex, decide_eq_false_iff_not, not_or, not_and, not_lt] at hn
  rcases hn.1.lt_or_eq with h1 | h1
  · exact .inl h1
  · refine .inr ⟨h1.symm, (hn.2 h1).lt_of_ne fun e => h.ne (rank_injective p e)⟩

/-- Every number is at a position. -/
theorem rank_surjective (p : Fin 8 → EReal) : Function.Surjective (rank p) :=
  Finite.injective_iff_surjective.1 (rank_injective p)

/-! ## The kernel's rounds -/

/-- The greatest entry, given where it is. -/
theorem largest_eq {p : Fin 8 → EReal} {i : Fin 8} (h : ∀ e, p e ≤ p i) : largest p = p i := by
  rw [largest, lowest_lit]
  exact le_antisymm (Finset.fold_max_le _ |>.2 ⟨bot_le, fun e _ => h e⟩)
    (Finset.le_fold_max _ |>.2 (.inr ⟨i, Finset.mem_univ _, le_rfl⟩))

/-- The lesser of two words, as integers. -/
theorem toInt_minsi (x y : BitVec 32) : (IntOp.minsi x y).toInt = min x.toInt y.toInt := by
  unfold IntOp.minsi
  by_cases h : x.slt y
  · rw [if_pos h, min_eq_left (by simpa [BitVec.slt] using (of_decide_eq_true h : x.toInt < y.toInt).le)]
  · rw [if_neg h, min_eq_right]
    simpa [BitVec.slt] using h

/-- A number below 2³¹ as a word, read as an integer. -/
theorem toInt_small (n : ℕ) (h : n < 9) : (BitVec.ofNat 32 n).toInt = n := by
  interval_cases n <;> rfl

/-- The first entry that is the greatest, given where it is. -/
theorem firstAt_eq {p : Fin 8 → EReal} {i : Fin 8} (h : ∀ e, p e ≤ p i) (hf : ∀ e, p e = p i → i ≤ e) :
    firstAt p = BitVec.ofNat 32 i.val := by
  have hl := largest_eq h
  apply BitVec.eq_of_toInt_eq
  rw [firstAt, ← Finset.fold_hom (op' := min) (m := BitVec.toInt) toInt_minsi, toInt_small i.val (by omega)]
  have hi := i.isLt
  refine le_antisymm ((Finset.fold_min_le _).2 (.inr ⟨i, Finset.mem_univ _, ?_⟩)) ((Finset.le_fold_min _).2 ⟨?_, fun e _ => ?_⟩)
  · rw [if_pos hl.symm, toInt_small i.val (by omega)]
  · have h7 : (2147483647#32 : BitVec 32).toInt = 2147483647 := rfl
    rw [h7]; omega
  · split
    · rename_i he
      rw [toInt_small e.val (by omega)]
      exact_mod_cast hf e (he.trans hl)
    · have h8 : (8#32 : BitVec 32).toInt = 8 := rfl
      rw [h8]; omega

/-- The words of two numbers below eight are equal when the numbers are. -/
theorem cmpi_num (e i : Fin 8) : IntOp.cmpi .eq (BitVec.ofNat 32 e.val) (BitVec.ofNat 32 i.val) = BitVec.ofBool (decide (e = i)) := by
  revert e i; decide

/-- The entries with one taken out. -/
theorem without_num (p : Fin 8 → EReal) (i e : Fin 8) :
    without p (BitVec.ofNat 32 i.val) e = if e = i then ⊥ else p e := by
  rw [without, cmpi_num, lowest_lit, Scalar.select]
  by_cases h : e = i <;> simp [h]

/-- Selecting where either of two conditions holds. -/
theorem select_or (s t : Prop) [Decidable s] [Decidable t] (x : EReal) :
    Scalar.select (IntOp.ori (BitVec.ofBool (decide s)) (BitVec.ofBool (decide t))) x 0 = if s ∨ t then x else 0 := by
  by_cases hs : s <;> by_cases ht : t <;> simp [hs, ht, Scalar.select, IntOp.ori]

/-- The kernel's weights, given where the two greatest entries are: the first greatest, and the first greatest of the rest. -/
theorem weight_num {p : Fin 8 → EReal} {i j : Fin 8} (hi : ∀ e, p e ≤ p i) (hif : ∀ e, p e = p i → i ≤ e)
    (hij : j ≠ i) (hj : ∀ e, e ≠ i → p e ≤ p j) (hjf : ∀ e, e ≠ i → p e = p j → j ≤ e) (hb : p j ≠ ⊥) (e : Fin 8) :
    weight p e = Ideal.div (if e = i ∨ e = j then p e else 0) (p i + p j) := by
  have h1 := firstAt_eq hi hif
  have hq (e : Fin 8) : without p (firstAt p) e = if e = i then ⊥ else p e := by rw [h1, without_num]
  have hqj : without p (firstAt p) j = p j := by rw [hq, if_neg hij]
  have hle (e : Fin 8) : without p (firstAt p) e ≤ without p (firstAt p) j := by
    rw [hqj, hq]; split
    · exact bot_le
    · exact hj e ‹_›
  have h2 : firstAt (without p (firstAt p)) = BitVec.ofNat 32 j.val := firstAt_eq hle fun e he => by
    rw [hqj, hq] at he
    by_cases hei : e = i
    · rw [if_pos hei] at he; exact absurd he.symm hb
    · rw [if_neg hei] at he; exact hjf e hei he
  unfold weight
  rw [h2, largest_eq hle, hqj, largest_eq hi, h1, cmpi_num, cmpi_num, select_or]

/-! ## The softmax's two cases -/

/-- A softmax is undefined in every entry, or a real number at least zero in every entry and above zero in one. -/
theorem softmax_cases (l : Fin 8 → EReal) : (∀ e, softmax l e = ⊥) ∨
    ∃ r : Fin 8 → ℝ, (∀ e, softmax l e = (r e : EReal) ∧ 0 ≤ r e) ∧ ∃ e, 0 < r e := by
  obtain ⟨i, -, hi⟩ := Finset.exists_max_image Finset.univ l ⟨0, Finset.mem_univ _⟩
  have hm : largest l = l i := largest_eq fun e => hi e (Finset.mem_univ _)
  by_cases hr : l i = ⊤ ∨ l i = ⊥
  · left
    have h0 (e : Fin 8) : Ideal.exp (l e - largest l) = 0 := by
      have : l e - largest l = ⊥ := by
        rw [hm]
        rcases hr with h | h
        · rw [h]; simp [sub_eq_add_neg]
        · rw [le_bot_iff.1 ((hi e (Finset.mem_univ _)).trans_eq h), sub_eq_add_neg]; simp
      rw [this]; rfl
    intro e
    simp [softmax, h0, Ideal.div]
  · right
    push Not at hr
    obtain ⟨m, hm'⟩ : ∃ m : ℝ, l i = (m : EReal) := ⟨_, (EReal.coe_toReal hr.1 hr.2).symm⟩
    have hx (e : Fin 8) : ∃ x : ℝ, Ideal.exp (l e - largest l) = (x : EReal) ∧ 0 ≤ x := by
      have hle := hi e (Finset.mem_univ _)
      rw [hm, hm']
      rw [hm'] at hle
      induction h : l e with
      | bot => exact ⟨0, by rw [sub_eq_add_neg, EReal.bot_add]; rfl, le_rfl⟩
      | top => rw [h] at hle; exact absurd hle (by simp)
      | coe x => exact ⟨Real.exp (x - m), by rw [← EReal.coe_sub]; rfl, (Real.exp_pos _).le⟩
    choose x hx using hx
    have hxi : x i = 1 := by
      have h := (hx i).1
      rw [hm, hm', ← EReal.coe_sub, sub_self] at h
      have h' : ((Real.exp 0 : ℝ) : EReal) = (x i : EReal) := h
      rw [Real.exp_zero] at h'
      exact_mod_cast h'.symm
    have hs : 0 < ∑ e, x e := by
      refine Finset.sum_pos' (fun e _ => (hx e).2) ⟨i, Finset.mem_univ _, by rw [hxi]; norm_num⟩
    refine ⟨fun e => x e / ∑ e, x e, fun e => ⟨?_, div_nonneg (hx e).2 hs.le⟩, i, ?_⟩
    · rw [softmax]
      simp only [fun e => (hx e).1, coe_sum]
      exact div_coe_coe _ hs.ne'
    · show 0 < x i / ∑ e, x e
      rw [hxi]; positivity

/-! ## The reference's weights -/

/-- The weight of one expert as the reference scatters it: the quotients of the two greatest entries by their sum, where
    they land. -/
def route (p : Fin 8 → EReal) (e : Fin 8) : EReal :=
  ∑ k : Fin 2, if rank p (k.castLE (by omega)) = e
    then Ideal.div (p (rank p (k.castLE (by omega)))) (∑ k : Fin 2, p (rank p (k.castLE (by omega)))) else 0

/-- The reference's and the kernel's weights agree on a softmax, and are numbers at least zero. -/
theorem route_eq (l : Fin 8 → EReal) (e : Fin 8) :
    route (softmax l) e = weight (softmax l) e ∧ 0 ≤ weight (softmax l) e ∧ weight (softmax l) e ≠ ⊤ := by
  rcases softmax_cases l with h | ⟨r, hr, m, hm⟩
  · have hw : weight (softmax l) e = 0 := by
      have hp : softmax l = fun _ => ⊥ := funext h
      have hL : largest (fun _ : Fin 8 => (⊥ : EReal)) = ⊥ := largest_eq (i := 0) fun _ => le_rfl
      rw [weight, hp, hL, EReal.bot_add]
      simp [Ideal.div]
    rw [hw]
    refine ⟨?_, le_rfl, EReal.zero_ne_top⟩
    have hd : Ideal.div (⊥ : EReal) (∑ _k : Fin 2, ⊥) = 0 := by
      rw [Fin.sum_univ_two, EReal.bot_add]
      simp [Ideal.div]
    simp only [route, h, hd, ite_self, Finset.sum_const_zero]
  · set p := softmax l with hp
    have h1 (k : Fin 8) (hk : k ≠ 0) := rank_lt p (Fin.pos_iff_ne_zero.2 hk)
    have h2 (k : Fin 8) (hk : 1 < k) := rank_lt p hk
    have hi (e : Fin 8) : p e ≤ p (rank p 0) := by
      obtain ⟨k, rfl⟩ := rank_surjective p e
      by_cases hk : k = 0
      · rw [hk]
      · exact (h1 k hk).elim le_of_lt fun h => h.1.ge
    have hif (e : Fin 8) (he : p e = p (rank p 0)) : rank p 0 ≤ e := by
      obtain ⟨k, rfl⟩ := rank_surjective p e
      by_cases hk : k = 0
      · rw [hk]
      · exact (h1 k hk).elim (fun h => absurd he h.ne) fun h => h.2.le
    have hij : rank p 1 ≠ rank p 0 := fun h => absurd (rank_injective p h) (by decide)
    have hj (e : Fin 8) (hne : e ≠ rank p 0) : p e ≤ p (rank p 1) := by
      obtain ⟨k, rfl⟩ := rank_surjective p e
      by_cases hk : k = 1
      · rw [hk]
      · have : 1 < k := by
          have : k ≠ 0 := fun h => hne (by rw [h])
          omega
        exact (h2 k this).elim le_of_lt fun h => h.1.ge
    have hjf (e : Fin 8) (hne : e ≠ rank p 0) (he : p e = p (rank p 1)) : rank p 1 ≤ e := by
      obtain ⟨k, rfl⟩ := rank_surjective p e
      by_cases hk : k = 1
      · rw [hk]
      · have : 1 < k := by
          have : k ≠ 0 := fun h => hne (by rw [h])
          omega
        exact (h2 k this).elim (fun h => absurd he h.ne) fun h => h.2.le
    have hw := weight_num hi hif hij hj hjf (by rw [(hr _).1]; simp) e
    have hs : 0 < r (rank p 0) + r (rank p 1) := by
      refine add_pos_of_pos_of_nonneg ?_ (hr _).2
      have := hi m
      rw [(hr _).1, (hr _).1, EReal.coe_le_coe_iff] at this
      exact hm.trans_le this
    have hd (x : ℝ) : Ideal.div (x : EReal) (p (rank p 0) + p (rank p 1))
        = ((x / (r (rank p 0) + r (rank p 1)) : ℝ) : EReal) := by
      rw [(hr _).1, (hr (rank p 1)).1, ← EReal.coe_add, div_coe_coe _ hs.ne']
    have hv : weight p e = (((if e = rank p 0 ∨ e = rank p 1 then r e else 0) / (r (rank p 0) + r (rank p 1)) : ℝ) : EReal) := by
      rw [hw, ← hd]
      split
      · rw [(hr e).1]
      · rfl
    refine ⟨?_, ?_, ?_⟩
    · rw [route, Fin.sum_univ_two, Fin.sum_univ_two, hw]
      show (if rank p 0 = e then Ideal.div (p (rank p 0)) (p (rank p 0) + p (rank p 1)) else 0)
        + (if rank p 1 = e then Ideal.div (p (rank p 1)) (p (rank p 0) + p (rank p 1)) else 0) = _
      have hz : Ideal.div 0 (p (rank p 0) + p (rank p 1)) = 0 := by simpa using hd 0
      by_cases ha : rank p 0 = e
      · have hb : rank p 1 ≠ e := fun h => hij (h.trans ha.symm)
        rw [if_pos ha, if_neg hb, if_pos (.inl ha.symm), ha, add_zero]
      · by_cases hb : rank p 1 = e
        · rw [if_neg ha, if_pos hb, if_pos (.inr hb.symm), hb, zero_add]
        · rw [if_neg ha, if_neg hb, if_neg (not_or.2 ⟨Ne.symm ha, Ne.symm hb⟩), hz, add_zero]
    · rw [hv]
      refine EReal.coe_nonneg.2 (div_nonneg ?_ hs.le)
      split
      · exact (hr e).2
      · exact le_rfl
    · rw [hv]; exact EReal.coe_ne_top _

end Spiking

end
-- ==== Proof.RWeight.lean ====
/- The reference's expert weights read at an index: the two greatest probabilities of each image, by the stable sort,
   divided by their sum and scattered to their experts. -/
module

public import proofs.«01_k».proof.Proof.RRead
public import proofs.«01_k».proof.Proof.Router
public import Idealize.ShloMosaic.Lib.Routing.OpsPair

@[expose] public section

noncomputable section

namespace Cert.ReferenceIdeal.RWeight

open Idealize.ShloMosaic Idealize.SL.Sem Cert.ReferenceIdeal Cert.ReferenceIdeal.Gen Cert.ReferenceIdeal.Read
  Cert.ReferenceIdeal.RSum

/-- A row of eight at one of its positions. -/
theorem along_eq (b : Fin 16) (j e : Fin 8) : Function.update (ix2 b j : S16x8.Idx) (1 : Fin 2) e = ix2 b e := by
  funext a
  fin_cases a <;> rfl

/-- The order of two extended reals, as the sort asks it. -/
theorem before_eq (a c : EReal) : (FloatOps.cmpfTotal (F := Ideal) (φ := .f32) .gt a c == 1#1) = decide (c < a) := by
  show (BitVec.ofBool (decide (c < a)) == 1#1) = _
  by_cases h : c < a <;> simp [h]

/-- The sort of rows of eight with their numbers by the greater entry, read at an index. -/
theorem sort2_apply (x : FVec Ideal S16x8 .f32) (y : IVec S16x8 32) (b : Fin 16) (j : Fin 8) :
    (Host.sort2 S16x8 1 (fun l r : EReal × BitVec 32 => FloatOps.cmpfTotal (F := Ideal) (φ := .f32) .gt l.1 r.1) x y).1 (ix2 b j)
        = x (ix2 b (Spiking.rank (fun e => x (ix2 b e)) j))
      ∧ (Host.sort2 S16x8 1 (fun l r : EReal × BitVec 32 => FloatOps.cmpfTotal (F := Ideal) (φ := .f32) .gt l.1 r.1) x y).2 (ix2 b j)
        = y (ix2 b (Spiking.rank (fun e => x (ix2 b e)) j)) := by
  have h : sortedFrom (fun k k' : Fin 8 => FloatOps.cmpfTotal (F := Ideal) (φ := .f32) .gt
      (x (Function.update (ix2 b j : S16x8.Idx) (1 : Fin 2) k)) (x (Function.update (ix2 b j : S16x8.Idx) (1 : Fin 2) k')) == 1#1) j
      = Spiking.rank (fun e => x (ix2 b e)) j := by
    unfold Spiking.rank
    congr 1
    funext k k'
    rw [before_eq, along_eq, along_eq]
    rfl
  constructor
  · exact (congrArg (fun r => x (Function.update (ix2 b j : S16x8.Idx) (1 : Fin 2) r)) h).trans (congrArg x (along_eq b j _))
  · exact (congrArg (fun r => y (Function.update (ix2 b j : S16x8.Idx) (1 : Fin 2) r)) h).trans (congrArg y (along_eq b j _))

/-- The two greatest of a row of eight, by the stable sort: the entry and its number. -/
theorem topTwo_apply (x : FVec Ideal S16x8 .f32) (b : Fin 16) (k : Fin 2) :
    (Host.topK S16x2 1 (FloatOps.cmpfTotal (F := Ideal) (φ := .f32) .gt) x sliceFits_S16x8_S16x2).1 (ix2 b k)
        = x (ix2 b (Spiking.rank (fun e => x (ix2 b e)) (k.castLE (by omega))))
      ∧ (Host.topK S16x2 1 (FloatOps.cmpfTotal (F := Ideal) (φ := .f32) .gt) x sliceFits_S16x8_S16x2).2 (ix2 b k)
        = BitVec.ofNat 32 (Spiking.rank (fun e => x (ix2 b e)) (k.castLE (by omega))).val := by
  have hs (h : ∀ a, 0 + ((ix2 b k : S16x2.Idx) a).val < S16x8.size a) :
      (fun a => ⟨0 + ((ix2 b k : S16x2.Idx) a).val, h a⟩ : S16x8.Idx) = ix2 b (k.castLE (by omega)) := by
    funext a
    fin_cases a <;> exact Fin.ext (Nat.zero_add _)
  have h := sort2_apply x (fun i => iotaInDim S16x8 32 1 i) b (k.castLE (by omega))
  constructor
  · exact (congrArg _ (hs _)).trans h.1
  · exact (congrArg _ (hs _)).trans h.2

variable (x0 : FVec Ideal S4x16x128x16x16 .f32) (x9 : FVec Ideal S8x128 .f32) (x10 x11 x12 : FVec Ideal S8 .f32)

/-- The number of the expert at a position of the order of one image's probabilities. -/
def place (b : Fin 16) (k : Fin 2) : Fin 8 :=
  Spiking.rank (fun e => val_main_v143 (F := Ideal) x0 x9 x10 x11 x12 (ix2 b e)) (k.castLE (by omega))

/-- The image's number of an update. -/
theorem image_apply (b : Fin 16) (k : Fin 2) :
    (val_main_v164 (F := Ideal) x0 x9 x10 x11 x12 (ix3 b k 0)).toInt = b.val := by
  have h : val_main_v164 (F := Ideal) x0 x9 x10 x11 x12 (ix3 b k 0) = val_main_v155 (F := Ideal) (ix2 b 0) := by
    pointwise [val_main_v164, val_main_v162, val_main_v161]
  have h' : val_main_v155 (F := Ideal) (ix2 b 0) = Scalar.select (IntOp.cmpi .slt (BitVec.ofNat 32 b.val) 0#32)
      (IntOp.addi (BitVec.ofNat 32 b.val) 16#32) (BitVec.ofNat 32 b.val) := by
    pointwise [val_main_v155, val_main_v154, val_main_v153, val_main_v152, val_main_v151, val_main_v150, val_main_v149,
      val_main_c_40, val_main_c_41]
  rw [h, h']
  clear h h'
  revert b
  decide

/-- The expert's number of an update. -/
theorem expert_apply (b : Fin 16) (k : Fin 2) :
    (val_main_v164 (F := Ideal) x0 x9 x10 x11 x12 (ix3 b k 1)).toInt = (place x0 x9 x10 x11 x12 b k).val := by
  have h : val_main_v164 (F := Ideal) x0 x9 x10 x11 x12 (ix3 b k 1) = val_main_v160 (F := Ideal) x0 x9 x10 x11 x12 (ix2 b k) := by
    pointwise [val_main_v164, val_main_v163]
  have hi : val_main_indices (F := Ideal) x0 x9 x10 x11 x12 (ix2 b k) = BitVec.ofNat 32 (place x0 x9 x10 x11 x12 b k).val :=
    (topTwo_apply _ b k).2
  have h' : val_main_v160 (F := Ideal) x0 x9 x10 x11 x12 (ix2 b k)
      = Scalar.select (IntOp.cmpi .slt (BitVec.ofNat 32 (place x0 x9 x10 x11 x12 b k).val) 0#32)
        (IntOp.addi (BitVec.ofNat 32 (place x0 x9 x10 x11 x12 b k).val) 8#32) (BitVec.ofNat 32 (place x0 x9 x10 x11 x12 b k).val) := by
    rw [← hi]
    pointwise [val_main_v160, val_main_v159, val_main_v158, val_main_v157, val_main_v156, val_main_c_42, val_main_c_43]
  rw [h, h']
  clear h h' hi
  generalize place x0 x9 x10 x11 x12 b k = e
  revert e
  decide

/-- The value of an update: the probability over the two's sum. -/
theorem share_apply (b : Fin 16) (k : Fin 2) :
    val_main_v147 (F := Ideal) x0 x9 x10 x11 x12 (ix2 b k)
      = Ideal.div (val_main_v143 (F := Ideal) x0 x9 x10 x11 x12 (ix2 b (place x0 x9 x10 x11 x12 b k)))
        (∑ k : Fin 2, val_main_v143 (F := Ideal) x0 x9 x10 x11 x12 (ix2 b (place x0 x9 x10 x11 x12 b k))) := by
  have hv (k : Fin 2) : val_main_values (F := Ideal) x0 x9 x10 x11 x12 (ix2 b k)
      = val_main_v143 (F := Ideal) x0 x9 x10 x11 x12 (ix2 b (place x0 x9 x10 x11 x12 b k)) := (topTwo_apply _ b k).1
  have hs : val_main_v144 (F := Ideal) x0 x9 x10 x11 x12 (ix1 b)
      = ∑ k : Fin 2, val_main_values (F := Ideal) x0 x9 x10 x11 x12 (ix2 b k) := by
    rw [val_main_v144_apply]
    have hz : val_main_cst_38 (F := Ideal) (Shape.Idx.first h_S_) = 0 := Ideal.ofBits_zero_f32
    rw [hz, zero_add]
    refine Finset.sum_congr rfl fun k _ => congrArg _ ?_
    funext a
    match a with
    | ⟨0, _⟩ => rfl
    | ⟨1, _⟩ => rfl
  have h : val_main_v147 (F := Ideal) x0 x9 x10 x11 x12 (ix2 b k)
      = Ideal.div (val_main_values (F := Ideal) x0 x9 x10 x11 x12 (ix2 b k)) (val_main_v144 (F := Ideal) x0 x9 x10 x11 x12 (ix1 b)) := by
    pointwise [val_main_v147, val_main_v146, val_main_v145]
  simp only [h, hs, hv]

/-- A sum over the updates is a sum over the images and the positions. -/
theorem sum_updates (f : S16x2.Idx → EReal) : ∑ j, f j = ∑ b : Fin 16, ∑ k : Fin 2, f (ix2 b k) := by
  rw [← Fintype.sum_prod_type']
  let e : S16x2.Idx ≃ Fin 16 × Fin 2 := ⟨fun j => (j 0, j 1), fun p => ix2 p.1 p.2, fun j => ix2_eta j, fun _ => rfl⟩
  exact Fintype.sum_equiv e _ _ fun j => congrArg f (ix2_eta j).symm

/-- The weight of one expert for one image is the model's route of the image's probabilities. -/
theorem weights (b : Fin 16) (e : Fin 8) :
    val_main_v165 (F := Ideal) x0 x9 x10 x11 x12 (ix2 b e)
      = Spiking.route (fun e => val_main_v143 (F := Ideal) x0 x9 x10 x11 x12 (ix2 b e)) e := by
  have hl (b' : Fin 16) (k : Fin 2) :
      scatter_S16x8_S16x2x2_S16x2_n_01_01_2.resultIdx? (ix2 b' k) (val_main_v164 (F := Ideal) x0 x9 x10 x11 x12) = some (ix2 b e)
        ↔ b' = b ∧ place x0 x9 x10 x11 x12 b' k = e := by
    have hi := image_apply x0 x9 x10 x11 x12 b' k
    have he := expert_apply x0 x9 x10 x11 x12 b' k
    have hs := Routing.scatter_lands2 scatter_S16x8_S16x2x2_S16x2_n_01_01_2 rfl rfl rfl
      (val_main_v164 (F := Ideal) x0 x9 x10 x11 x12) b' k b e
    refine hs.trans ?_
    show (val_main_v164 (F := Ideal) x0 x9 x10 x11 x12 (ix3 b' k 0)).toInt = _
      ∧ (val_main_v164 (F := Ideal) x0 x9 x10 x11 x12 (ix3 b' k 1)).toInt = _ ↔ _
    rw [hi, he]
    simp only [Nat.cast_inj, Fin.val_inj]
  have h : val_main_v165 (F := Ideal) x0 x9 x10 x11 x12 (ix2 b e)
      = val_main_v148 (F := Ideal) (ix2 b e) + ∑ j : S16x2.Idx, if scatter_S16x8_S16x2x2_S16x2_n_01_01_2.resultIdx? j
        (val_main_v164 (F := Ideal) x0 x9 x10 x11 x12) = some (ix2 b e) then val_main_v147 (F := Ideal) x0 x9 x10 x11 x12 j else 0 := by
    rw [← Finset.sum_filter]
    rfl
  have hz : val_main_v148 (F := Ideal) (ix2 b e) = 0 := by
    have : val_main_v148 (F := Ideal) (ix2 b e) = Ideal.ofBits .f32 0x00000000#32 := by
      pointwise [val_main_v148, val_main_cst_39]
    rw [this, Ideal.ofBits_zero_f32]
  rw [h, hz, zero_add, sum_updates]
  simp only [hl]
  rw [Finset.sum_eq_single b]
  · simp only [true_and, share_apply]
    rfl
  · intro b' _ hne
    simp [hne]
  · simp

end Cert.ReferenceIdeal.RWeight

end
-- ==== Proof.Same.lean ====
/- The kernel's stored slabs and the reference's result are the same numbers: both are the model's output, with the same
   weights of the experts. -/
module

public import proofs.«01_k».proof.Proof.KRead
public import proofs.«01_k».proof.Proof.RExpert
public import proofs.«01_k».proof.Proof.RWeight

@[expose] public section

noncomputable section

namespace Cert.Same

open Idealize.ShloMosaic Idealize.SL.Sem Cert.ReferenceIdeal Cert.ReferenceIdeal.Read Cert.ReferenceIdeal.RSum
  Cert.ReferenceIdeal.RRead Cert.ReferenceIdeal.RExpert

variable (x0 : FVec Ideal S4x16x128x16x16 .f32) (x9 : FVec Ideal S8x128 .f32) (x10 x11 x12 : FVec Ideal S8 .f32)

/-- The probabilities of one image's experts, in the model. -/
def chances (b : Fin 16) : Fin 8 → EReal := Spiking.softmax fun e =>
  Spiking.logit (fun t n => Spiking.hid (Ideal.ofBits .f32 0x3F000000#32) (rows x0) (fun d e => x9 (ix2 e d)) t n e)
    (x11 (ix1 e)) (x12 (ix1 e)) b

/-- The reference's probabilities are the model's. -/
theorem chances_eq (h9 : ∀ i, Spiking.Real' (x9 i)) (h10 : ∀ i, Spiking.Real' (x10 i)) (h11 : ∀ i, Spiking.Real' (x11 i))
    (b : Fin 16) (e : Fin 8) : val_main_v143 (F := Ideal) x0 x9 x10 x11 x12 (ix2 b e) = chances x0 x9 x11 x12 b e := by
  rw [probs, chances]
  congr 1
  funext e
  rw [logits]
  exact Spiking.logit_eq (fun t n => Spiking.real_hid _ _ (fun d c => h9 _) t n e) (h10 _) (h11 _) _ b

/-- The reference's weights are the kernel's, of the model's probabilities, and are numbers at least zero. -/
theorem weights_eq (h9 : ∀ i, Spiking.Real' (x9 i)) (h10 : ∀ i, Spiking.Real' (x10 i)) (h11 : ∀ i, Spiking.Real' (x11 i))
    (b : Fin 16) (e : Fin 8) :
    val_main_v165 (F := Ideal) x0 x9 x10 x11 x12 (ix2 b e) = Spiking.weight (chances x0 x9 x11 x12 b) e
      ∧ 0 ≤ val_main_v165 (F := Ideal) x0 x9 x10 x11 x12 (ix2 b e) ∧ val_main_v165 (F := Ideal) x0 x9 x10 x11 x12 (ix2 b e) ≠ ⊤ := by
  have h := RWeight.weights x0 x9 x10 x11 x12 b e
  simp only [chances_eq x0 x9 x10 x11 x12 h9 h10 h11] at h
  have hr := Spiking.route_eq (fun e => Spiking.logit (fun t n => Spiking.hid (Ideal.ofBits .f32 0x3F000000#32) (rows x0)
    (fun d e => x9 (ix2 e d)) t n e) (x11 (ix1 e)) (x12 (ix1 e)) b) e
  have he : val_main_v165 (F := Ideal) x0 x9 x10 x11 x12 (ix2 b e) = Spiking.weight (chances x0 x9 x11 x12 b) e := h.trans hr.1
  exact ⟨he, by rw [he]; exact hr.2⟩

variable (x1 x5 : FVec Ideal S8x128x128 .f32) (x2 x3 x4 x6 x7 x8 : FVec Ideal S8x128 .f32) (x13 : FVec Ideal S8 .f32)

/-- The kernel's stored slab is the reference's result, where the weights, the biases and the scales are real numbers and
    no time constant is zero. -/
theorem stored_eq (y0 : FVec Ideal KernelIdeal.S4x4096x128 .f32) (y1 y4 : FVec Ideal S8x128x128 .f32) (y7 : FVec Ideal KernelIdeal.S128x8 .f32)
    (y8 y9 y10 : FVec Ideal KernelIdeal.S1x8 .f32)
    (e0 : ∀ t n c, y0 (ix3 t n c) = x0 (ix5 t (Spiking.bat n) c (high n) (wide n)))
    (e1 : ∀ e d c, y1 (ix3 e d c) = x1 (ix3 e c d)) (e4 : ∀ e d c, y4 (ix3 e d c) = x5 (ix3 e c d))
    (e7 : ∀ d e, y7 (ix2 d e) = x9 (ix2 e d)) (e8 : ∀ e, y8 (ix2 0 e) = x11 (ix1 e)) (e9 : ∀ e, y9 (ix2 0 e) = x12 (ix1 e))
    (e10 : ∀ e, y10 (ix2 0 e) = x13 (ix1 e))
    (h1 : ∀ i, Spiking.Real' (x1 i)) (h2 : ∀ i, Spiking.Real' (x2 i)) (h3 : ∀ i, Spiking.Real' (x3 i))
    (h5 : ∀ i, Spiking.Real' (x5 i)) (h6 : ∀ i, Spiking.Real' (x6 i)) (h7 : ∀ i, Spiking.Real' (x7 i))
    (h9 : ∀ i, Spiking.Real' (x9 i)) (h10 : ∀ i, Spiking.Real' (x10 i)) (h11 : ∀ i, Spiking.Real' (x11 i))
    (h13 : ∀ e : Fin 8, x13 (ix1 e) ≠ 0)
    (t : Fin 4) (b : Fin 16) (c : Fin 128) (h w : Fin 16) :
    KernelIdeal.KSpec.stored (F := Ideal) y0 y1 x3 x4 y4 x7 x8 y7 y8 y9 y10 t.val (ix3 0 (row b h w) c)
      = val_main_v450 (F := Ideal) x0 x1 x2 x3 x4 x5 x6 x7 x8 x9 x10 x11 x12 x13 (ix5 t b c h w) := by
  have hx : (fun t n c => y0 (ix3 (Cert.KernelIdeal.KSpec.fin 3 t) n c) : Spiking.Field) = rows x0 := by
    funext t n c
    exact e0 _ _ _
  have hw (b : Fin 16) (e : Fin 8) : KernelIdeal.KSpec.dense (F := Ideal) y0 y7 y8 y9 (ix2 b e)
      = val_main_v165 (F := Ideal) x0 x9 x10 x11 x12 (ix2 b e) := by
    rw [(weights_eq x0 x9 x10 x11 x12 h9 h10 h11 b e).1]
    refine (KernelIdeal.KRead.dense_apply y0 y7 y8 y9 b e).trans ?_
    rw [hx]
    simp only [e7, e8, e9]
    rfl
  refine (KernelIdeal.KRead.stored_apply y0 y1 x3 x4 y4 x7 x8 y7 y8 y9 y10 t.val (row b h w) c).trans ?_
  rw [result (hr := h13) (h1 := h1) (h2 := h2) (h3 := h3) (h5 := h5) (h6 := h6) (h7 := h7)
    (hw := fun b e => (weights_eq x0 x9 x10 x11 x12 h9 h10 h11 b e).2), hx]
  simp only [hw, e1, e4, e10]
  rfl

end Cert.Same

end
-- ==== Proof.Final.lean ====
/- The kernel's result array and the reference's are the same function of the arguments. -/
module

public import proofs.«01_k».proof.Proof.KRun
public import proofs.«01_k».proof.Proof.Same

@[expose] public section

noncomputable section

namespace Cert.Final

open Idealize.ShloMosaic Idealize.ShloMosaic.TcCoe Idealize.SL.Sem Cert.KernelIdeal Cert.KernelIdeal.Gen Cert.ReferenceIdeal.RSum

/-- The images as rows: a row holds the pixel at its batch entry, height and width. -/
theorem rows_apply (x : FVec Ideal S4x16x128x16x16 .f32) (t : Fin 4) (n : Fin 4096) (c : Fin 128) :
    shapeCast S4x4096x128 (transpose S4x16x16x16x128 [0, 1, 3, 4, 2] x transposes_S4x16x128x16x16_S4x16x16x16x128_0_1_3_4_2)
      shapeCasts_S4x16x16x16x128_S4x4096x128 (ix3 t n c) = x (ix5 t (Spiking.bat n) c (high n) (wide n)) := by
  pointwise
  rfl

/-- The rows as images: a pixel is the row of its batch entry, height and width. -/
theorem images_apply (y : FVec Ideal S4x4096x128 .f32) (t : Fin 4) (b : Fin 16) (c : Fin 128) (h w : Fin 16) :
    transpose S4x16x128x16x16 [0, 1, 4, 2, 3] (shapeCast S4x16x16x16x128 y shapeCasts_S4x4096x128_S4x16x16x16x128)
      transposes_S4x16x16x16x128_S4x16x128x16x16_0_1_4_2_3 (ix5 t b c h w) = y (ix3 t (row b h w) c) := by
  pointwise
  rfl

/-- An expert's matrix with its axes exchanged. -/
theorem matrix_apply (x : FVec Ideal S8x128x128 .f32) (e : Fin 8) (d c : Fin 128) :
    transpose S8x128x128 [0, 2, 1] x transposes_S8x128x128_S8x128x128_0_2_1 (ix3 e d c) = x (ix3 e c d) := by
  pointwise

/-- The router's matrix with its axes exchanged. -/
theorem router_apply (x : FVec Ideal S8x128 .f32) (d : Fin 128) (e : Fin 8) :
    transpose S128x8 [1, 0] x transposes_S8x128_S128x8_1_0 (ix2 d e) = x (ix2 e d) := by
  pointwise

/-- A vector over the experts as one row. -/
theorem line_apply (x : FVec Ideal S8 .f32) (e : Fin 8) : shapeCast S1x8 x shapeCasts_S8_S1x8 (ix2 0 e) = x (ix1 e) := by
  pointwise

variable (m : (ℓ : Loc nD τ sig) → Buf (Elt Ideal) ℓ) (c : Dev nD)

/-- What the kernel leaves in its result is the reference's result on the same arguments, where the weights, the biases and
    the scales are real numbers and no time constant is zero. -/
theorem result_eq
    (h1 : ∀ i, Spiking.Real' ((m ((c : Thread nD τ).loc main_arg1)) i))
    (h2 : ∀ i, Spiking.Real' ((m ((c : Thread nD τ).loc main_arg2)) i))
    (h3 : ∀ i, Spiking.Real' ((m ((c : Thread nD τ).loc main_arg3)) i))
    (h5 : ∀ i, Spiking.Real' ((m ((c : Thread nD τ).loc main_arg5)) i))
    (h6 : ∀ i, Spiking.Real' ((m ((c : Thread nD τ).loc main_arg6)) i))
    (h7 : ∀ i, Spiking.Real' ((m ((c : Thread nD τ).loc main_arg7)) i))
    (h9 : ∀ i, Spiking.Real' ((m ((c : Thread nD τ).loc main_arg9)) i))
    (h10 : ∀ i, Spiking.Real' ((m ((c : Thread nD τ).loc main_arg10)) i))
    (h11 : ∀ i, Spiking.Real' ((m ((c : Thread nD τ).loc main_arg11)) i))
    (h13 : ∀ i, (m ((c : Thread nD τ).loc main_arg13)) i ≠ (0 : EReal)) :
    KRun.result m c = ReferenceIdeal.Read.val_main_v450 (F := Ideal) (m ((c : Thread nD τ).loc main_arg0))
      (m ((c : Thread nD τ).loc main_arg1)) (m ((c : Thread nD τ).loc main_arg2)) (m ((c : Thread nD τ).loc main_arg3))
      (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) := by
  obtain ⟨e0, e1, e4, e7, e8, e9, e10⟩ := KRun.launched m c
  funext i
  rw [← ix5_eta i]
  have h (t : Fin 4) (b : Fin 16) (d : Fin 128) (h w : Fin 16) := Same.stored_eq (m ((c : Thread nD τ).loc main_arg0))
    (m ((c : Thread nD τ).loc main_arg9)) (m ((c : Thread nD τ).loc main_arg10)) (m ((c : Thread nD τ).loc main_arg11))
    (m ((c : Thread nD τ).loc main_arg12)) (m ((c : Thread nD τ).loc main_arg1)) (m ((c : Thread nD τ).loc main_arg5))
    (m ((c : Thread nD τ).loc main_arg2)) (m ((c : Thread nD τ).loc main_arg3)) (m ((c : Thread nD τ).loc main_arg4))
    (m ((c : Thread nD τ).loc main_arg6)) (m ((c : Thread nD τ).loc main_arg7)) (m ((c : Thread nD τ).loc main_arg8))
    (m ((c : Thread nD τ).loc main_arg13)) _ _ _ _ _ _ _
    (rows_apply _) (matrix_apply _) (matrix_apply _) (router_apply _) (line_apply _) (line_apply _) (line_apply _)
    h1 h2 h3 h5 h6 h7 h9 h10 h11 (fun e => h13 (ix1 e)) t b d h w
  have k (t : Fin 4) (b : Fin 16) (d : Fin 128) (h w : Fin 16) := (images_apply (out0_11 (V m c main_v1) (V m c main_v2)
    (V m c main_arg3) (V m c main_arg4) (V m c main_v3) (V m c main_arg7) (V m c main_arg8) (V m c main_v4) (V m c main_v5)
    (V m c main_v6) (V m c main_v7)) t b d h w).trans (KRun.out_apply _ _ _ _ _ _ _ _ _ _ _ _ _ _)
  rw [V_main_arg3, V_main_arg4, V_main_arg7, V_main_arg8, e0, e1, e4, e7, e8, e9, e10] at k
  rw [KRun.result, V_main_arg3, V_main_arg4, V_main_arg7, V_main_arg8, e0, e1, e4, e7, e8, e9, e10]
  exact (k _ _ _ _ _).trans (h _ _ _ _ _)

end Cert.Final

end
-- ==== Proof.lean ====
/- The proof of the certificate's claims: the frames of the kernel, of its ideal program and of the reference, that the
   idealization preserves the kernel, and that kernel and reference have equal results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Regular
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference has no semaphore, so any two counter assignments are equal. -/
theorem reference_sem (f : GSem Cert.ReferenceIdeal.nD Cert.ReferenceIdeal.τ Cert.ReferenceIdeal.sig → Int) :
    f = fun _ => 0 := by
  funext ⟨_, s⟩
  rcases s with s | s <;> exact absurd s.2 (Nat.not_lt_zero _)

attribute [local instance] Cert.Pre_regular.shapes

/-- The reference runs from every memory and changes no argument. -/
theorem reference : quiescent_ReferenceIdeal (hReferenceIdeal := Cert.ReferenceIdeal.Gen.facts) := fun m ρ _ =>
  (θ_run _ _ _).mono (fun _ h => ⟨fun c => (h c).2, reference_sem _⟩) (Cert.ReferenceIdeal.Value.run m ρ)

/-- The kernel's and the reference's results are equal, where the precondition holds. -/
theorem algebraic : algebraic_KernelIdeal_ReferenceIdeal_pre_regular (hKernelIdeal := Cert.KernelIdeal.Gen.facts)
    (hReferenceIdeal := Cert.ReferenceIdeal.Gen.facts) (hPre_regular := Cert.Pre_regular.shapes) := by
  intro m g m' g' hp he
  refine ⟨fun c => Cert.KernelIdeal.KRun.result m c, Cert.KernelIdeal.KRun.run m g, ?_⟩
  refine (θ_run _ _ _).mono (fun r h c => ⟨?_, (h c).2⟩) (Cert.ReferenceIdeal.Value.run m' g')
  obtain ⟨a0, a1, a2, a3, a4, a5, a6, a7, a8, a9, a10, a11, a12, a13⟩ := he c
  obtain ⟨h1, h2, h3, h5, h6, h7, h9, h10, h11, h13⟩ := Cert.Pre_regular.meaning _ _ _ _ _ _ _ _ _ _ _ _ _ _ (hp c)
  refine ((h c).1.trans (Cert.ReferenceIdeal.Read.val_main_v450_eq _)).trans ?_
  refine Eq.trans ?_ (Cert.Final.result_eq m c h1 h2 h3 h5 h6 h7 h9 h10 h11 h13).symm
  rw [← a0, ← a1, ← a2, ← a3, ← a4, ← a5, ← a6, ← a7, ← a8, ← a9, ← a10, ← a11, ← a12, ← a13]

/-- The certificate's claims. -/
theorem claim : Cert.Claim := ⟨Cert.Kernel.Gen.facts, Cert.KernelIdeal.Gen.facts, Cert.ReferenceIdeal.Gen.facts, Cert.Pre_regular.shapes, by
  exact ⟨fun m ρ _ => Cert.Kernel.Gen.frame m ρ, fun m ρ _ => Cert.KernelIdeal.Gen.frame m ρ,
    fun m ρ _ => Cert.KernelIdeal.Gen.frame m ρ, reference, fun m ρ _ => reference m ρ True.intro, trivial, algebraic⟩⟩

end Cert.Proof

end
